-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_below_infinity [hPre_logits_below_infinity : Cert.Pre_logits_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_logits_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_below_infinity [hPre_logits_below_infinity : Cert.Pre_logits_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_logits_below_infinity [hKernelIdeal : Cert.KernelIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_logits_below_infinity [hReferenceIdeal : Cert.ReferenceIdeal.Facts] [hPre_logits_below_infinity : Cert.Pre_logits_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "log_norm" .f32 0x40B06FAB#32 ((3 * (Real.log (13176795 / 2097152)) : ℝ) : EReal)

def algebraic_KernelIdeal_ReferenceIdeal_pre_logits_below_infinity [hKernelIdeal : Cert.KernelIdeal.Facts] [hReferenceIdeal : Cert.ReferenceIdeal.Facts] [hPre_logits_below_infinity : Cert.Pre_logits_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_logits_below_infinity : Cert.Pre_logits_below_infinity.Facts),
    quiescent_Kernel (hKernel := hKernel)
    ∧ quiescent_KernelIdeal (hKernelIdeal := hKernelIdeal)
    ∧ quiescent_KernelIdeal_pre_logits_below_infinity (hKernelIdeal := hKernelIdeal) (hPre_logits_below_infinity := hPre_logits_below_infinity)
    ∧ quiescent_ReferenceIdeal (hReferenceIdeal := hReferenceIdeal)
    ∧ quiescent_ReferenceIdeal_pre_logits_below_infinity (hReferenceIdeal := hReferenceIdeal) (hPre_logits_below_infinity := hPre_logits_below_infinity)
    ∧ preserves_Kernel_KernelIdeal
    ∧ algebraic_KernelIdeal_ReferenceIdeal_pre_logits_below_infinity (hKernelIdeal := hKernelIdeal) (hReferenceIdeal := hReferenceIdeal) (hPre_logits_below_infinity := hPre_logits_below_infinity)
-- ==== Pre_logits_below_infinity.lean ====
abbrev S32768x6 : Shape := ⟨2, ![32768, 6]⟩
abbrev S16x16x8x6 : Shape := ⟨4, ![16, 16, 8, 6]⟩
abbrev S16x16x8 : Shape := ⟨3, ![16, 16, 8]⟩
abbrev S32768 : Shape := ⟨1, ![32768]⟩
abbrev S_ : Shape := ⟨0, ![]⟩

class Facts : Prop where
  bcast_S_S16x16x8 : S_.BroadcastsInDim S16x16x8 (![] : Fin 0 → Fin S16x16x8.rank)

variable [Facts]

def fn {F : FTy → Type} [FloatOps F] (main_arg0 : FVec F S32768x6 .f32) (main_arg1 : FVec F S16x16x8x6 .f32) (main_arg2 : FVec F S16x16x8 .f32) (main_arg3 : FVec F S16x16x8 .f32) (main_arg4 : IVec S32768 32) : IVec S16x16x8 1 :=
  let main_cst : FVec F S_ .f32 := constant S_ .f32 0x7F800000#32
  let main_v0 : FVec F S16x16x8 .f32 := broadcastInDim S16x16x8 ![] bcast_S_S16x16x8 main_cst
  let main_v1 : IVec S16x16x8 1 := cmpf .olt main_arg3 main_v0
  main_v1
-- ==== Kernel.lean ====
abbrev S32768x6 : Shape := ⟨2, ![32768, 6]⟩
abbrev S16x16x8x6 : Shape := ⟨4, ![16, 16, 8, 6]⟩
abbrev S16x16x8 : Shape := ⟨3, ![16, 16, 8]⟩
abbrev S32768 : Shape := ⟨1, ![32768]⟩
abbrev S6x16x16x8 : Shape := ⟨4, ![6, 16, 16, 8]⟩
abbrev S96x128 : Shape := ⟨2, ![96, 128]⟩
abbrev S16x128 : Shape := ⟨2, ![16, 128]⟩
abbrev S32768x1 : Shape := ⟨2, ![32768, 1]⟩
abbrev S1x16 : Shape := ⟨2, ![1, 16]⟩
abbrev S1x1 : Shape := ⟨2, ![1, 1]⟩
abbrev S_ : Shape := ⟨0, ![]⟩
abbrev S16 : Shape := ⟨1, ![16]⟩
abbrev S1024x6 : Shape := ⟨2, ![1024, 6]⟩
abbrev S1024x1 : Shape := ⟨2, ![1024, 1]⟩
abbrev S128x128 : Shape := ⟨2, ![128, 128]⟩
abbrev S1024x128 : Shape := ⟨2, ![1024, 128]⟩
abbrev S1024 : Shape := ⟨1, ![1024]⟩
abbrev S1024x16 : Shape := ⟨2, ![1024, 16]⟩
abbrev S1 : Shape := ⟨1, ![1]⟩

abbrev nBuf : Space → Nat
  | .hbm => 14
  | .vmem => 10
  | .smem => 0
  | _ => 0

abbrev bufTy : (tb : Table) → Fin (tcTables nBuf tb) → BufTy
  | .hbm, ⟨0, _⟩ => ⟨S32768x6, .f32⟩
  | .hbm, ⟨1, _⟩ => ⟨S16x16x8x6, .f32⟩
  | .hbm, ⟨2, _⟩ => ⟨S16x16x8, .f32⟩
  | .hbm, ⟨3, _⟩ => ⟨S16x16x8, .f32⟩
  | .hbm, ⟨4, _⟩ => ⟨S32768, .i32⟩
  | .hbm, ⟨5, _⟩ => ⟨S6x16x16x8, .f32⟩
  | .hbm, ⟨6, _⟩ => ⟨S96x128, .f32⟩
  | .hbm, ⟨7, _⟩ => ⟨S16x128, .f32⟩
  | .hbm, ⟨8, _⟩ => ⟨S16x128, .f32⟩
  | .hbm, ⟨9, _⟩ => ⟨S32768x1, .i32⟩
  | .hbm, ⟨10, _⟩ => ⟨S1x16, .f32⟩
  | .hbm, ⟨11, _⟩ => ⟨S1x1, .f32⟩
  | .hbm, ⟨12, _⟩ => ⟨S_, .f32⟩
  | .hbm, ⟨13, _⟩ => ⟨S16, .f32⟩
  | .local _ .vmem, ⟨0, _⟩ => ⟨S1024x6, .f32⟩
  | .local _ .vmem, ⟨1, _⟩ => ⟨S1024x6, .f32⟩
  | .local _ .vmem, ⟨2, _⟩ => ⟨S96x128, .f32⟩
  | .local _ .vmem, ⟨3, _⟩ => ⟨S16x128, .f32⟩
  | .local _ .vmem, ⟨4, _⟩ => ⟨S16x128, .f32⟩
  | .local _ .vmem, ⟨5, _⟩ => ⟨S1024x1, .i32⟩
  | .local _ .vmem, ⟨6, _⟩ => ⟨S1024x1, .i32⟩
  | .local _ .vmem, ⟨7, _⟩ => ⟨S1x16, .f32⟩
  | .local _ .vmem, ⟨8, _⟩ => ⟨S1x1, .f32⟩
  | .local _ .vmem, ⟨9, _⟩ => ⟨S128x128, .f32⟩
  | _, _ => ⟨S32768x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5_0 : Ref sig .tc := ⟨.hbm, 10, rfl⟩
abbrev main_call0_v5_1 : Ref sig .tc := ⟨.hbm, 11, rfl⟩
abbrev main_v0_0 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "log_norm" => some ((3 * (Real.log (13176795 / 2097152)) : ℝ) : EReal)
  | _ => none
-- ==== ReferenceIdeal.lean ====
abbrev S32768x6 : Shape := ⟨2, ![32768, 6]⟩
abbrev S16x16x8x6 : Shape := ⟨4, ![16, 16, 8, 6]⟩
abbrev S16x16x8 : Shape := ⟨3, ![16, 16, 8]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x16x8x6 : Shape := ⟨4, ![32768, 16, 8, 6]⟩
abbrev S32768x16x8 : Shape := ⟨3, ![32768, 16, 8]⟩
abbrev S32768x16x8x1 : Shape := ⟨4, ![32768, 16, 8, 1]⟩
abbrev S32768x1x1x6 : Shape := ⟨4, ![32768, 1, 1, 6]⟩
abbrev S32768x128 : Shape := ⟨2, ![32768, 128]⟩
abbrev S16 : Shape := ⟨1, ![16]⟩

abbrev nBuf : Space → Nat
  | .hbm => 128
  | .vmem => 0
  | .smem => 0
  | _ => 0

abbrev bufTy : (tb : Table) → Fin (tcTables nBuf tb) → BufTy
  | .hbm, ⟨0, _⟩ => ⟨S32768x6, .f32⟩
  | .hbm, ⟨1, _⟩ => ⟨S16x16x8x6, .f32⟩
  | .hbm, ⟨2, _⟩ => ⟨S16x16x8, .f32⟩
  | .hbm, ⟨3, _⟩ => ⟨S16x16x8, .f32⟩
  | .hbm, ⟨4, _⟩ => ⟨S32768, .i32⟩
  | .hbm, ⟨5, _⟩ => ⟨S_, .i32⟩
  | .hbm, ⟨6, _⟩ => ⟨S32768, .i32⟩
  | .hbm, ⟨7, _⟩ => ⟨S32768, .i1⟩
  | .hbm, ⟨8, _⟩ => ⟨S_, .i32⟩
  | .hbm, ⟨9, _⟩ => ⟨S32768, .i32⟩
  | .hbm, ⟨10, _⟩ => ⟨S32768, .i32⟩
  | .hbm, ⟨11, _⟩ => ⟨S32768, .i32⟩
  | .hbm, ⟨12, _⟩ => ⟨S32768x1, .i32⟩
  | .hbm, ⟨13, _⟩ => ⟨S1, .i32⟩
  | .hbm, ⟨14, _⟩ => ⟨S_, .i32⟩
  | .hbm, ⟨15, _⟩ => ⟨S32768x1, .i32⟩
  | .hbm, ⟨16, _⟩ => ⟨S32768x1, .i1⟩
  | .hbm, ⟨17, _⟩ => ⟨S1x1, .i32⟩
  | .hbm, ⟨18, _⟩ => ⟨S32768x1, .i32⟩
  | .hbm, ⟨19, _⟩ => ⟨S32768x1, .i1⟩
  | .hbm, ⟨20, _⟩ => ⟨S32768x1, .i1⟩
  | .hbm, ⟨21, _⟩ => ⟨S_, .i1⟩
  | .hbm, ⟨22, _⟩ => ⟨S32768, .i1⟩
  | .hbm, ⟨23, _⟩ => ⟨S32768x16x8x6, .f32⟩
  | .hbm, ⟨24, _⟩ => ⟨S32768x16x8x6, .i1⟩
  | .hbm, ⟨25, _⟩ => ⟨S_, .f32⟩
  | .hbm, ⟨26, _⟩ => ⟨S32768x16x8x6, .f32⟩
  | .hbm, ⟨27, _⟩ => ⟨S32768x16x8x6, .f32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S1, .i32⟩
  | .hbm, ⟨37, _⟩ => ⟨S_, .i32⟩
  | .hbm, ⟨38, _⟩ => ⟨S32768x1, .i32⟩
  | .hbm, ⟨39, _⟩ => ⟨S32768x1, .i1⟩
  | .hbm, ⟨40, _⟩ => ⟨S1x1, .i32⟩
  | .hbm, ⟨41, _⟩ => ⟨S32768x1, .i32⟩
  | .hbm, ⟨42, _⟩ => ⟨S32768x1, .i1⟩
  | .hbm, ⟨43, _⟩ => ⟨S32768x1, .i1⟩
  | .hbm, ⟨44, _⟩ => ⟨S_, .i1⟩
  | .hbm, ⟨45, _⟩ => ⟨S32768, .i1⟩
  | .hbm, ⟨46, _⟩ => ⟨S32768x16x8, .f32⟩
  | .hbm, ⟨47, _⟩ => ⟨S32768x16x8, .i1⟩
  | .hbm, ⟨48, _⟩ => ⟨S_, .f32⟩
  | .hbm, ⟨49, _⟩ => ⟨S32768x16x8, .f32⟩
  | .hbm, ⟨50, _⟩ => ⟨S32768x16x8, .f32⟩
  | .hbm, ⟨51, _⟩ => ⟨S32768x16x8x1, .f32⟩
  | .hbm, ⟨52, _⟩ => ⟨S_, .i32⟩
  | .hbm, ⟨53, _⟩ => ⟨S32768, .i32⟩
  | .hbm, ⟨54, _⟩ => ⟨S32768, .i1⟩
  | .hbm, ⟨55, _⟩ => ⟨S_, .i32⟩
  | .hbm, ⟨56, _⟩ => ⟨S32768, .i32⟩
  | .hbm, ⟨57, _⟩ => ⟨S32768, .i32⟩
  | .hbm, ⟨58, _⟩ => ⟨S32768, .i32⟩
  | .hbm, ⟨59, _⟩ => ⟨S32768x1, .i32⟩
  | .hbm, ⟨60, _⟩ => ⟨S1, .i32⟩
  | .hbm, ⟨61, _⟩ => ⟨S_, .i32⟩
  | .hbm, ⟨62, _⟩ => ⟨S32768x1, .i32⟩
  | .hbm, ⟨63, _⟩ => ⟨S32768x1, .i1⟩
  | .hbm, ⟨64, _⟩ => ⟨S1x1, .i32⟩
  | .hbm, ⟨65, _⟩ => ⟨S32768x1, .i32⟩
  | .hbm, ⟨66, _⟩ => ⟨S32768x1, .i1⟩
  | .hbm, ⟨67, _⟩ => ⟨S32768x1, .i1⟩
  | .hbm, ⟨68, _⟩ => ⟨S_, .i1⟩
  | .hbm, ⟨69, _⟩ => ⟨S32768, .i1⟩
  | .hbm, ⟨70, _⟩ => ⟨S32768x16x8, .f32⟩
  | .hbm, ⟨71, _⟩ => ⟨S32768x16x8, .i1⟩
  | .hbm, ⟨72, _⟩ => ⟨S_, .f32⟩
  | .hbm, ⟨73, _⟩ => ⟨S32768x16x8, .f32⟩
  | .hbm, ⟨74, _⟩ => ⟨S32768x16x8, .f32⟩
  | .hbm, ⟨75, _⟩ => ⟨S_, .f32⟩
  | .hbm, ⟨76, _⟩ => ⟨S_, .f32⟩
  | .hbm, ⟨77, _⟩ => ⟨S32768x16x8x1, .f32⟩
  | .hbm, ⟨78, _⟩ => ⟨S32768x16x8x1, .f32⟩
  | .hbm, ⟨79, _⟩ => ⟨S32768x1x1x6, .f32⟩
  | .hbm, ⟨80, _⟩ => ⟨S32768x16x8x6, .f32⟩
  | .hbm, ⟨81, _⟩ => ⟨S32768x16x8x6, .f32⟩
  | .hbm, ⟨82, _⟩ => ⟨S32768x16x8x6, .f32⟩
  | .hbm, ⟨83, _⟩ => ⟨S32768x16x8x6, .f32⟩
  | .hbm, ⟨84, _⟩ => ⟨S_, .f32⟩
  | .hbm, ⟨85, _⟩ => ⟨S32768x16x8x6, .f32⟩
  | .hbm, ⟨86, _⟩ => ⟨S32768x16x8x6, .f32⟩
  | .hbm, ⟨87, _⟩ => ⟨S32768x16x8x6, .f32⟩
  | .hbm, ⟨88, _⟩ => ⟨S32768x16x8x1, .f32⟩
  | .hbm, ⟨89, _⟩ => ⟨S32768x16x8x6, .f32⟩
  | .hbm, ⟨90, _⟩ => ⟨S32768x16x8x6, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S32768x16x8x6, .f32⟩
  | .hbm, ⟨97, _⟩ => ⟨S32768x16x8x6, .f32⟩
  | .hbm, ⟨98, _⟩ => ⟨S_, .f32⟩
  | .hbm, ⟨99, _⟩ => ⟨S32768x16x8, .f32⟩
  | .hbm, ⟨100, _⟩ => ⟨S32768x16x8, .f32⟩
  | .hbm, ⟨101, _⟩ => ⟨S32768x128, .f32⟩
  | .hbm, ⟨102, _⟩ => ⟨S_, .f32⟩
  | .hbm, ⟨103, _⟩ => ⟨S32768, .f32⟩
  | .hbm, ⟨104, _⟩ => ⟨S32768, .f32⟩
  | .hbm, ⟨105, _⟩ => ⟨S_, .f32⟩
  | .hbm, ⟨106, _⟩ => ⟨S32768, .f32⟩
  | .hbm, ⟨107, _⟩ => ⟨S32768, .i1⟩
  | .hbm, ⟨108, _⟩ => ⟨S_, .f32⟩
  | .hbm, ⟨109, _⟩ => ⟨S_, .f32⟩
  | .hbm, ⟨110, _⟩ => ⟨S32768, .f32⟩
  | .hbm, ⟨111, _⟩ => ⟨S32768, .f32⟩
  | .hbm, ⟨112, _⟩ => ⟨S32768x1, .f32⟩
  | .hbm, ⟨113, _⟩ => ⟨S32768x128, .f32⟩
  | .hbm, ⟨114, _⟩ => ⟨S32768x128, .f32⟩
  | .hbm, ⟨115, _⟩ => ⟨S32768x128, .f32⟩
  | .hbm, ⟨116, _⟩ => ⟨S_, .f32⟩
  | .hbm, ⟨117, _⟩ => ⟨S32768, .f32⟩
  | .hbm, ⟨118, _⟩ => ⟨S32768, .f32⟩
  | .hbm, ⟨119, _⟩ => ⟨S32768, .f32⟩
  | .hbm, ⟨120, _⟩ => ⟨S_, .f32⟩
  | .hbm, ⟨121, _⟩ => ⟨S16, .f32⟩
  | .hbm, ⟨122, _⟩ => ⟨S32768x1, .i32⟩
  | .hbm, ⟨123, _⟩ => ⟨S16, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S32768x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_call2_cst : Ref sig .tc := ⟨.hbm, 72, rfl⟩
abbrev main_call2_v15 : Ref sig .tc := ⟨.hbm, 73, rfl⟩
abbrev main_v3 : Ref sig .tc := ⟨.hbm, 74, rfl⟩
abbrev main_cst : Ref sig .tc := ⟨.hbm, 75, rfl⟩
abbrev main_call3_v0 : Ref sig .tc := ⟨.hbm, 76, rfl⟩
abbrev main_call3_v1 : Ref sig .tc := ⟨.hbm, 77, rfl⟩
abbrev main_v4 : Ref sig .tc := ⟨.hbm, 78, rfl⟩
abbrev main_v5 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_cst_0 : Ref sig .tc := ⟨.hbm, 84, rfl⟩
abbrev main_v10 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_cst_1 : Ref sig .tc := ⟨.hbm, 91, rfl⟩
abbrev main_v16 : Ref sig .tc := ⟨.hbm, 92, rfl⟩
abbrev main_cst_2 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_cst_3 : Ref sig .tc := ⟨.hbm, 98, rfl⟩
abbrev main_v21 : Ref sig .tc := ⟨.hbm, 99, rfl⟩
abbrev main_v22 : Ref sig .tc := ⟨.hbm, 100, rfl⟩
abbrev main_v23 : Ref sig .tc := ⟨.hbm, 101, rfl⟩
abbrev main_cst_4 : Ref sig .tc := ⟨.hbm, 102, rfl⟩
abbrev main_v24 : Ref sig .tc := ⟨.hbm, 103, rfl⟩
abbrev main_v25 : Ref sig .tc := ⟨.hbm, 104, rfl⟩
abbrev main_cst_5 : Ref sig .tc := ⟨.hbm, 105, rfl⟩
abbrev main_v26 : Ref sig .tc := ⟨.hbm, 106, rfl⟩
abbrev main_v27 : Ref sig .tc := ⟨.hbm, 107, rfl⟩
abbrev main_cst_6 : Ref sig .tc := ⟨.hbm, 108, rfl⟩
abbrev main_call4_v0 : Ref sig .tc := ⟨.hbm, 109, rfl⟩
abbrev main_call4_v1 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_v31 : Ref sig .tc := ⟨.hbm, 114, rfl⟩
abbrev main_v32 : Ref sig .tc := ⟨.hbm, 115, rfl⟩
abbrev main_cst_7 : Ref sig .tc := ⟨.hbm, 116, rfl⟩
abbrev main_v33 : Ref sig .tc := ⟨.hbm, 117, rfl⟩
abbrev main_v34 : Ref sig .tc := ⟨.hbm, 118, rfl⟩
abbrev main_v35 : Ref sig .tc := ⟨.hbm, 119, rfl⟩
abbrev main_cst_8 : Ref sig .tc := ⟨.hbm, 120, rfl⟩
abbrev main_v36 : Ref sig .tc := ⟨.hbm, 121, rfl⟩
abbrev main_v37 : Ref sig .tc := ⟨.hbm, 122, rfl⟩
abbrev main_v38 : Ref sig .tc := ⟨.hbm, 123, rfl⟩
abbrev main_cst_9 : Ref sig .tc := ⟨.hbm, 124, rfl⟩
abbrev main_v39 : Ref sig .tc := ⟨.hbm, 125, rfl⟩
abbrev main_cst_10 : Ref sig .tc := ⟨.hbm, 126, rfl⟩
abbrev main_v40 : Ref sig .tc := ⟨.hbm, 127, rfl⟩

abbrev nD : Nat := 1
abbrev τ : Topo := Topo.v7x

variable {F : FTy → Type} [FloatOps F]
-- ==== Proof.Scalars.lean ====
/-
  THE SCALAR MATHS of one vote of one point, over the extended reals.

  A point has six coordinates `x d`; a vote has a mean `μ d` per coordinate, one width `s` and one presence logit `ℓ`.
  The kernel expands the Gaussian log density into three groups of products (`kPost`), the reference adds six log
  densities (`rPost`). This module proves the two equal for every width that is at least the clipping constant and
  every logit below `+∞`, whatever the coordinates and means are, infinities included (`post_eq`); then that the two
  ways of taking `log ∑ exp` of 128 such numbers agree (`lse_eq`).
-/
module

public import Idealize.ShloMosaic.PureOps.Ideal
public import Idealize.ShloMosaic.PureOps.Ideal.Laws
public import Idealize.ShloMosaic.Lib.IdealHost

@[expose] public section

noncomputable section

open Idealize.ShloMosaic

namespace Cert.Posterior

/-! ## The constants of the two programs -/

/-- The clipping constant of the widths, the 32-bit pattern of `1e-10`. -/
abbrev eps : EReal := Ideal.ofBits .f32 0x2EDBE6FF#32
/-- The pattern of `1/2`. -/
abbrev half : EReal := Ideal.ofBits .f32 0x3F000000#32
/-- The pattern of `-1/2`. -/
abbrev nhalf : EReal := Ideal.ofBits .f32 0xBF000000#32
/-- The pattern of `6`. -/
abbrev six : EReal := Ideal.ofBits .f32 0x40C00000#32
/-- The pattern of `2 π`. -/
abbrev twoPi : EReal := Ideal.ofBits .f32 0x40C90FDB#32
/-- The kernel's named constant: three times the logarithm of the number that the pattern of `2 π` stands for. -/
abbrev logNorm : EReal := ((3 * (Real.log (13176795 / 2097152)) : ℝ) : EReal)

theorem half_eq : half = ((1 / 2 : ℝ) : EReal) := by
  simp [half, Ideal.ofBits, Ideal.ieee, -EReal.coe_mul, -EReal.coe_neg]; norm_num

theorem nhalf_eq : nhalf = ((-(1 / 2) : ℝ) : EReal) := by
  simp [nhalf, Ideal.ofBits, Ideal.ieee, -EReal.coe_mul, -EReal.coe_neg]; norm_num

theorem six_eq : six = ((6 : ℝ) : EReal) := by
  simp [six, Ideal.ofBits, Ideal.ieee, -EReal.coe_mul, -EReal.coe_neg]; norm_num

theorem twoPi_eq : twoPi = ((13176795 / 2097152 : ℝ) : EReal) := by
  simp [twoPi, Ideal.ofBits, Ideal.ieee, -EReal.coe_mul, -EReal.coe_neg]; norm_num

theorem eps_pos : 0 < eps := by
  simp [eps, Ideal.ofBits, Ideal.ieee, -EReal.coe_mul, -EReal.coe_neg]

/-- The pattern of `-∞` stands for the bottom element. -/
theorem negInf_eq : Ideal.ofBits .f32 0xFF800000#32 = ⊥ := by
  simp [Ideal.ofBits, Ideal.ieee]

/-- The pattern of `+∞` stands for the top element. -/
theorem posInf_eq : Ideal.ofBits .f32 0x7F800000#32 = ⊤ := by
  simp [Ideal.ofBits, Ideal.ieee]

/-! ## The two forms of a vote's log density -/

/-- One over the square of the width. -/
def invSq (s : EReal) : EReal := Ideal.div 1 (s * s)

/-- The kernel's table entry that carries the presence logit and everything that does not depend on the point. -/
def bias (s : EReal) (μ : Fin 6 → EReal) (ℓ : EReal) : EReal :=
  ((ℓ - six * Ideal.log s) - logNorm) - (half * invSq s) * ∑ d, μ d * μ d

/-- The kernel's form: the products with the means, the squared norm, the point-free part. -/
def kPost (s : EReal) (μ x : Fin 6 → EReal) (ℓ : EReal) : EReal :=
  (∑ d, x d * (μ d * invSq s)) + (∑ d, x d * x d) * (nhalf * invSq s) + bias s μ ℓ

/-- One coordinate's Gaussian log density, as the reference writes it. -/
def term (s μ x : EReal) : EReal :=
  ((nhalf * Ideal.div (x - μ) s) * Ideal.div (x - μ) s - Ideal.log s) - half * Ideal.log twoPi

/-- The reference's form: the logit plus the six log densities. -/
def rPost (s : EReal) (μ x : Fin 6 → EReal) (ℓ : EReal) : EReal := ℓ + ∑ d, term s (μ d) (x d)

/-! ## Sums with an infinite term -/

theorem sum_eq_bot {ι : Type*} [Fintype ι] {f : ι → EReal} (d : ι) (h : f d = ⊥) : ∑ i, f i = ⊥ := by
  classical
  rw [← Finset.add_sum_erase _ _ (Finset.mem_univ d), h, EReal.bot_add]

theorem sum_eq_top {ι : Type*} [Fintype ι] {f : ι → EReal} (hf : ∀ i, 0 ≤ f i) (d : ι) (h : f d = ⊤) :
    ∑ i, f i = ⊤ := by
  classical
  rw [← Finset.add_sum_erase _ _ (Finset.mem_univ d), h]
  exact EReal.top_add_of_ne_bot (ne_of_gt (lt_of_lt_of_le EReal.bot_lt_zero (Finset.sum_nonneg fun i _ => hf i)))

theorem mul_self_nonneg' (x : EReal) : 0 ≤ x * x := by
  rcases le_total 0 x with h | h
  · exact mul_nonneg h h
  · have := mul_nonneg (EReal.neg_nonneg.mpr h) (EReal.neg_nonneg.mpr h)
    rwa [neg_mul_neg] at this

theorem mul_self_top {x : EReal} (h : x = ⊥ ∨ x = ⊤) : x * x = ⊤ := by
  rcases h with rfl | rfl <;> rfl

/-- A number that is neither infinity is a real number. -/
theorem real_or (x : EReal) : (∃ r : ℝ, x = r) ∨ (x = ⊥ ∨ x = ⊤) := by
  induction x with
  | bot => exact .inr (.inl rfl)
  | top => exact .inr (.inr rfl)
  | coe r => exact .inl ⟨r, rfl⟩

/-- A difference with an infinite operand is infinite. -/
theorem sub_infinite {x y : EReal} (h : (x = ⊥ ∨ x = ⊤) ∨ (y = ⊥ ∨ y = ⊤)) : x - y = ⊥ ∨ x - y = ⊤ := by
  induction x <;> induction y <;> simp_all [sub_eq_add_neg]

/-! ## The equation -/

theorem inv_top : invSq ⊤ = 0 := by
  simp [invSq, Ideal.div]

theorem inv_coe {r : ℝ} (h : 0 < r) : invSq (r : EReal) = ((1 / (r * r) : ℝ) : EReal) := by
  rw [invSq, ← EReal.coe_mul, Ideal.div_coe (mul_pos h h).ne', one_mul]

theorem log_coe_pos {r : ℝ} (h : 0 < r) : Ideal.log (r : EReal) = (Real.log r : EReal) := by
  rw [Ideal.log_coe, if_neg (not_le.mpr h)]

/-- At an infinite width both forms are `-∞`. -/
theorem post_top (μ x : Fin 6 → EReal) (ℓ : EReal) : kPost ⊤ μ x ℓ = ⊥ ∧ rPost ⊤ μ x ℓ = ⊥ := by
  have h6 : six * (⊤ : EReal) = ⊤ := by rw [six_eq]; exact EReal.coe_mul_top_of_pos (by norm_num)
  constructor
  · have : bias ⊤ μ ℓ = ⊥ := by
      simp [bias, h6, inv_top, sub_eq_add_neg, EReal.add_bot, EReal.bot_add]
    rw [kPost, this, EReal.add_bot]
  · have : ∀ d, term ⊤ (μ d) (x d) = ⊥ := fun d => by
      simp [term, sub_eq_add_neg, EReal.add_bot, EReal.bot_add]
    rw [rPost, sum_eq_bot 0 (this 0), EReal.add_bot]

/-- At a real width, one infinite coordinate or mean makes both forms `-∞`. -/
theorem post_infinite {r : ℝ} (hr : 0 < r) (μ x : Fin 6 → EReal) (ℓ : EReal) (d : Fin 6)
    (h : (x d = ⊥ ∨ x d = ⊤) ∨ (μ d = ⊥ ∨ μ d = ⊤)) : kPost r μ x ℓ = ⊥ ∧ rPost r μ x ℓ = ⊥ := by
  have hi : (0 : ℝ) < 1 / (r * r) := by positivity
  constructor
  · rcases h with h | h
    · have hn : ∑ d, x d * x d = ⊤ := sum_eq_top (fun d => mul_self_nonneg' _) d (mul_self_top h)
      have : (∑ d, x d * x d) * (nhalf * invSq r) = ⊥ := by
        rw [hn, inv_coe hr, nhalf_eq, ← EReal.coe_mul]
        exact EReal.top_mul_coe_of_neg (by nlinarith)
      rw [kPost, this, EReal.add_bot, EReal.bot_add]
    · have hn : ∑ d, μ d * μ d = ⊤ := sum_eq_top (fun d => mul_self_nonneg' _) d (mul_self_top h)
      have : (half * invSq r) * ∑ d, μ d * μ d = ⊤ := by
        rw [hn, inv_coe hr, half_eq, ← EReal.coe_mul]
        exact EReal.coe_mul_top_of_pos (by positivity)
      rw [kPost, bias, this, sub_eq_add_neg _ (⊤ : EReal), EReal.neg_top, EReal.add_bot, EReal.add_bot]
  · have hz : Ideal.div (x d - μ d) r = ⊥ ∨ Ideal.div (x d - μ d) r = ⊤ := by
      have hp : (0 : ℝ) < 1 / r := by positivity
      rw [Ideal.div_coe hr.ne']
      rcases sub_infinite h with h | h <;> rw [h]
      · exact .inl (EReal.bot_mul_coe_of_pos hp)
      · exact .inr (EReal.top_mul_coe_of_pos hp)
    have ht : term r (μ d) (x d) = ⊥ := by
      have : (nhalf * Ideal.div (x d - μ d) r) * Ideal.div (x d - μ d) r = ⊥ := by
        rw [mul_assoc, mul_self_top hz, nhalf_eq]
        exact EReal.coe_mul_top_of_neg (by norm_num)
      rw [term, this]; simp [sub_eq_add_neg, EReal.bot_add]
    rw [rPost, sum_eq_bot d ht, EReal.add_bot]

/-- With every number real the two forms are the two sides of the expanded square. -/
theorem post_real {r : ℝ} (hr : 0 < r) (μ x : Fin 6 → ℝ) (ℓ : ℝ) :
    kPost r (fun d => μ d) (fun d => x d) ℓ = rPost r (fun d => μ d) (fun d => x d) ℓ
      ∧ ∃ v : ℝ, rPost r (fun d => μ d) (fun d => x d) ℓ = v := by
  have h2 : (0 : ℝ) < 13176795 / 2097152 := by norm_num
  constructor
  · simp only [kPost, bias, rPost, term, inv_coe hr, log_coe_pos hr, log_coe_pos h2, half_eq, nhalf_eq, six_eq, twoPi_eq,
      logNorm, Ideal.div_coe hr.ne', Fin.sum_univ_six, ← EReal.coe_mul, ← EReal.coe_sub, ← EReal.coe_add]
    congr 1
    field_simp
    ring
  · simp only [rPost, term, log_coe_pos hr, log_coe_pos h2, half_eq, nhalf_eq, twoPi_eq,
      Ideal.div_coe hr.ne', Fin.sum_univ_six, ← EReal.coe_mul, ← EReal.coe_sub, ← EReal.coe_add]
    exact ⟨_, rfl⟩

/-- At a logit of `-∞` with every other number real, both forms are `-∞`. -/
theorem post_bot (s : EReal) (μ x : Fin 6 → EReal) : kPost s μ x ⊥ = ⊥ ∧ rPost s μ x ⊥ = ⊥ := by
  simp [kPost, bias, rPost, sub_eq_add_neg, EReal.bot_add, EReal.add_bot]

/-- THE EQUATION. For a clipped width and a logit below `+∞` the kernel's form of a vote's log density is the
    reference's, and it is not `+∞`. -/
theorem post_eq {s : EReal} (hs : eps ≤ s) (μ x : Fin 6 → EReal) {ℓ : EReal} (hℓ : ℓ ≠ ⊤) :
    kPost s μ x ℓ = rPost s μ x ℓ ∧ rPost s μ x ℓ ≠ ⊤ := by
  have both {a b : EReal} (h : a = ⊥ ∧ b = ⊥) : a = b ∧ b ≠ ⊤ := by rw [h.1, h.2]; exact ⟨rfl, bot_ne_top⟩
  have hpos : 0 < s := lt_of_lt_of_le eps_pos hs
  induction s with
  | bot => exact absurd hpos (by simp)
  | top => exact both (post_top μ x ℓ)
  | coe r =>
    have hr : 0 < r := by exact_mod_cast hpos
    by_cases h : ∃ d, (x d = ⊥ ∨ x d = ⊤) ∨ (μ d = ⊥ ∨ μ d = ⊤)
    · obtain ⟨d, h⟩ := h
      exact both (post_infinite hr μ x ℓ d h)
    · have hx : ∀ d, ∃ a : ℝ, x d = a := fun d => (real_or (x d)).resolve_right fun h' => h ⟨d, .inl h'⟩
      have hμ : ∀ d, ∃ a : ℝ, μ d = a := fun d => (real_or (μ d)).resolve_right fun h' => h ⟨d, .inr h'⟩
      choose X hX using hx
      choose M hM using hμ
      obtain rfl : x = fun d => (X d : EReal) := funext hX
      obtain rfl : μ = fun d => (M d : EReal) := funext hM
      induction ℓ with
      | bot => exact both (post_bot _ _ _)
      | top => exact absurd rfl hℓ
      | coe l =>
        obtain ⟨e, v, hv⟩ := post_real hr M X l
        exact ⟨e, hv ▸ EReal.coe_ne_top v⟩

/-! ## The logarithm of the sum of exponentials -/

/-- The largest of 128 numbers, as both programs take it: folded from `-∞`. -/
def maxOf (p : Fin 128 → EReal) : EReal := Finset.univ.fold max ⊥ p

/-- The kernel's `log ∑ exp`: shifted by the largest number, whatever that is. -/
def kLse (p : Fin 128 → EReal) : EReal := maxOf p + Ideal.log (∑ k, Ideal.exp (p k - maxOf p))

/-- The reference's shift: the largest number when it is finite, otherwise zero. -/
def shift (p : Fin 128 → EReal) : EReal := if max (maxOf p) (-maxOf p) < ⊤ then maxOf p else 0

/-- The reference's `log ∑ exp`. -/
def rLse (p : Fin 128 → EReal) : EReal := Ideal.log (∑ k, Ideal.exp (p k - shift p)) + shift p

theorem maxOf_ne_top {p : Fin 128 → EReal} (h : ∀ k, p k ≠ ⊤) : maxOf p ≠ ⊤ :=
  ne_of_lt (Finset.fold_max_lt _ |>.mpr ⟨bot_lt_top, fun k _ => lt_top_iff_ne_top.mpr (h k)⟩)

/-- For numbers below `+∞` the two shifts give the same logarithm: they differ only where all 128 numbers are `-∞`, and
    there both results are `-∞`. -/
theorem lse_eq {p : Fin 128 → EReal} (h : ∀ k, p k ≠ ⊤) : kLse p = rLse p := by
  have hm := maxOf_ne_top h
  have hle : ∀ k, p k ≤ maxOf p := fun k => (Finset.fold_max_le _ |>.mp le_rfl).2 k (Finset.mem_univ k)
  rcases real_or (maxOf p) with ⟨r, hr⟩ | hb | ht
  · have : shift p = maxOf p := by
      rw [shift, if_pos]
      rw [hr, max_lt_iff]
      exact ⟨EReal.coe_lt_top r, by rw [← EReal.coe_neg]; exact EReal.coe_lt_top _⟩
    rw [kLse, rLse, this, add_comm]
  · have hp : ∀ k, p k = ⊥ := fun k => le_bot_iff.mp (hb ▸ hle k)
    have hs : shift p = 0 := by rw [shift, hb]; simp
    have hz : Ideal.log (0 : EReal) = ⊥ := by
      have := Ideal.log_coe 0
      simpa using this
    simp [kLse, rLse, hs, hb, hp, hz, EReal.bot_add]
  · exact absurd ht hm

end Cert.Posterior

end
-- ==== Proof.Step.lean ====
/-
  WHAT ONE GRID POINT ADDS: the kernel's step over one block of 1024 points, read at an index.

  The step multiplies a 1024 × 128 matrix with a carried 128 × 128 table. Lane `16 d + b` of a row of that matrix is the
  point's feature `d` (its six coordinates, its squared norm, the number 1) where the point belongs to batch `b`, and
  zero elsewhere; so a row of the product is the sum of eight products, the kernel's form of the vote's log density
  (`mix_eq`). The step adds to entry `b` of the running sums the `log ∑ exp` of every row whose batch is `b`
  (`step_apply`).
-/
module

public import proofs.«01_k».proof.Proof.Gen.KernelIdeal.Frame
public import proofs.«01_k».proof.Proof.Scalars
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Step

open Cert.KernelIdeal Cert.KernelIdeal.Gen Cert.Posterior

/-- One execution of the kernel's step: the block of points, their batches, the table, the running sums. -/
def step (x : Vec Ideal S1024x6 .f32) (bt : Vec Ideal S1024x1 .i32) (w : Vec Ideal S128x128 .f32)
    (acc : Vec Ideal S1x16 .f32) : Vec Ideal S1x16 .f32 :=
  k0_pay27 x (k0_pay21 bt) k0_pay22 k0_pay23 (k0_pay24 x) k0_pay25 (k0_pay26 x) w acc

/-- Whether a lane's feature number is `d`: the lane number shifted right by four, compared with `d`. -/
abbrev isFeat (k : ℕ) (d : BitVec 32) : BitVec 1 :=
  IntOp.cmpi .eq (IntOp.shrsi .vector (BitVec.ofNat 32 k) 4#32) d

/-- The feature a lane holds: a coordinate, the squared norm, or 1. -/
def feat (x : Fin 6 → EReal) (k : ℕ) : EReal :=
  Scalar.select (isFeat k 5#32) (x 5) <| Scalar.select (isFeat k 4#32) (x 4) <|
  Scalar.select (isFeat k 3#32) (x 3) <| Scalar.select (isFeat k 2#32) (x 2) <|
  Scalar.select (isFeat k 1#32) (x 1) <| Scalar.select (isFeat k 0#32) (x 0) <|
  Scalar.select (isFeat k 6#32) (∑ d, x d * x d) 1

/-- One entry of the product of the masked features with the table. -/
def mix (x : Fin 6 → EReal) (bt : BitVec 32) (w : Vec Ideal S128x128 .f32) (v : Fin 128) : EReal :=
  ∑ k : Fin 128, Scalar.select (IntOp.cmpi .eq (IntOp.andi (BitVec.ofNat 32 k) 15#32) bt) (feat x k * w (ix2 k v)) 0

/-- The step at an index: the running sum plus the `log ∑ exp` of each row of the batch. -/
theorem step_apply (x : Vec Ideal S1024x6 .f32) (bt : Vec Ideal S1024x1 .i32) (w : Vec Ideal S128x128 .f32)
    (acc : Vec Ideal S1x16 .f32) (b : Fin 16) :
    step x bt w acc (ix2 (0 : Fin 1) b) = acc (ix2 (0 : Fin 1) b)
      + ∑ r : Fin 1024, Scalar.select (IntOp.cmpi .eq (BitVec.ofNat 32 b) (bt (ix2 r (0 : Fin 1))))
          (kLse (mix (fun d => x (ix2 r d)) (bt (ix2 r (0 : Fin 1))) w)) 0 := by
  unfold step
  pointwise [k0_pay21, k0_pay22, k0_pay23, k0_pay24, k0_pay25, k0_pay26, k0_pay27]
  simp only [negInf_eq]
  rfl

/-! ## The lanes collapse -/

theorem shift_lane : ∀ (d : Fin 8) (b : Fin 16),
    IntOp.shrsi .vector (BitVec.ofNat 32 (b.val + 16 * d.val)) 4#32 = BitVec.ofNat 32 d := by decide +kernel

theorem mask_lane : ∀ (d : Fin 8) (b c : Fin 16),
    IntOp.cmpi .eq (IntOp.andi (BitVec.ofNat 32 (b.val + 16 * d.val)) 15#32) (BitVec.ofNat 32 c)
      = if b = c then 1#1 else 0#1 := by decide +kernel

/-- Lane `16 d + b` holds feature `d`. -/
theorem feat_lane (x : Fin 6 → EReal) (d : Fin 8) (b : Fin 16) :
    feat x (b.val + 16 * d.val) = ![x 0, x 1, x 2, x 3, x 4, x 5, ∑ d, x d * x d, 1] d := by
  simp only [feat, isFeat, shift_lane]
  fin_cases d <;> rfl

/-- For a point of batch `b` the product with a table of the kernel's form is the kernel's form of the log density. -/
theorem mix_eq (x : Fin 6 → EReal) (w : Vec Ideal S128x128 .f32) (b : Fin 16) (v : Fin 128)
    (s : EReal) (μ : Fin 6 → EReal) (ℓ : EReal)
    (hμ : ∀ d : Fin 6, w (ix2 (⟨16 * d.val + b.val, by omega⟩ : Fin 128) v) = μ d * invSq s)
    (hn : w (ix2 (⟨96 + b.val, by omega⟩ : Fin 128) v) = nhalf * invSq s)
    (hb : w (ix2 (⟨112 + b.val, by omega⟩ : Fin 128) v) = bias s μ ℓ) :
    mix x (BitVec.ofNat 32 b) w v = kPost s μ x ℓ := by
  have hrow : ∀ d : Fin 8, (∑ b' : Fin 16, Scalar.select (IntOp.cmpi .eq (IntOp.andi (BitVec.ofNat 32 (finProdFinEquiv (d, b') : Fin (8 * 16)).val) 15#32) (BitVec.ofNat 32 b))
      (feat x (finProdFinEquiv (d, b') : Fin (8 * 16)).val * w (ix2 (finProdFinEquiv (d, b') : Fin (8 * 16)) v)) 0)
      = ![x 0, x 1, x 2, x 3, x 4, x 5, ∑ d, x d * x d, 1] d * w (ix2 (⟨16 * d.val + b.val, by omega⟩ : Fin 128) v) := by
    intro d
    rw [Finset.sum_eq_single b]
    · simp only [finProdFinEquiv_apply_val, mask_lane, feat_lane]
      rw [if_true]
      refine (show Scalar.select 1#1 _ (0 : EReal) = _ from rfl).trans ?_
      exact congrArg (fun k : Fin 128 => _ * w (ix2 k v)) (Fin.ext (show b.val + 16 * d.val = 16 * d.val + b.val by omega))
    · intro b' _ h
      rw [show (finProdFinEquiv (d, b') : Fin (8 * 16)).val = b'.val + 16 * d.val from rfl, mask_lane, if_neg h]
      rfl
    · exact fun h => absurd (Finset.mem_univ b) h
  have hW : ∀ d : Fin 8, w (ix2 (⟨16 * d.val + b.val, by omega⟩ : Fin 128) v)
      = ![μ 0 * invSq s, μ 1 * invSq s, μ 2 * invSq s, μ 3 * invSq s, μ 4 * invSq s, μ 5 * invSq s, nhalf * invSq s, bias s μ ℓ] d := by
    intro d
    fin_cases d
    exacts [hμ 0, hμ 1, hμ 2, hμ 3, hμ 4, hμ 5, hn, hb]
  unfold mix
  rw [← (finProdFinEquiv : Fin 8 × Fin 16 ≃ Fin (8 * 16)).sum_comp, Fintype.sum_prod_type]
  simp only [hrow, hW]
  rw [Fin.sum_univ_eight, kPost, Fin.sum_univ_six (fun d => x d * (μ d * invSq s))]
  exact congrArg (_ + ·) (one_mul (bias s μ ℓ))

end Cert.KernelIdeal.Step

end
-- ==== Proof.Carried.lean ====
/-
  WHAT A GRID POINT LEAVES: the running sums, the mean of them, and the carried table of vote parameters.

  The first point stores the table (`table_mean`, `table_half`, `table_bias` read its three groups of rows) and starts the
  sums at zero (`sums_A`); every later point keeps the table (`table_B`) and adds its rows to the sums (`sums_B`), and its
  mean is the mean of the sums it leaves (`mean_B`).
-/
module

public import proofs.«01_k».proof.Proof.Gen.KernelIdeal.Frame
public import proofs.«01_k».proof.Proof.Scalars
public import Idealize.ShloMosaic.Lib.Pipeline.ValueKit
public import Idealize.ShloMosaic.Lib.Pipeline.ReadBack
public import Idealize.ShloMosaic.Lib.Pointwise
public import proofs.«01_k».proof.Proof.Step

@[expose] public section

set_option maxRecDepth 16384

noncomputable section

open Idealize.ShloMosaic Idealize.ShloMosaic.TcCoe Idealize.SL.Sem
open Idealize.ShloMosaic.Pipeline (Dat)

namespace Cert.KernelIdeal.Carried

open Cert.KernelIdeal Cert.KernelIdeal.Gen Cert.Posterior Cert.KernelIdeal.Step

/-- The kernel's named constant is three times the logarithm of the number the reference calls two pi. -/
theorem named_norm : (Named.named κ "log_norm" 0x40B06FAB#32 : Ideal .f32) = logNorm := by
  unfold logNorm
  simp [Named.named, κ]

variable (m : (ℓ : Loc nD τ sig) → Buf (Elt Ideal) ℓ) (c : Dev nD)

/-- A grid point's block of coordinates. -/
abbrev xb (t : Fin cfg0.N) : Vec Ideal S1024x6 .f32 := iblk m c 0 t
/-- The votes' block: row `16 d + b` holds coordinate `d` of the votes of batch `b`. -/
abbrev mub (t : Fin cfg0.N) : Vec Ideal S96x128 .f32 := iblk m c 1 t
/-- The scales' block. -/
abbrev scb (t : Fin cfg0.N) : Vec Ideal S16x128 .f32 := iblk m c 2 t
/-- The logits' block. -/
abbrev lgb (t : Fin cfg0.N) : Vec Ideal S16x128 .f32 := iblk m c 3 t
/-- A grid point's block of batch numbers. -/
abbrev btb (t : Fin cfg0.N) : Vec Ideal S1024x1 .i32 := iblk m c 4 t

/-- The running sums after a grid point. -/
abbrev sumsAt (t : Fin cfg0.N) : Vec Ideal S1x16 .f32 := (outsAt0 m c t.val t.isLt).1
/-- The mean after a grid point. -/
abbrev meanAt (t : Fin cfg0.N) : Vec Ideal S1x1 .f32 := (outsAt0 m c t.val t.isLt).2.1
/-- The table after a grid point. -/
abbrev tableAt (t : Fin cfg0.N) : Vec Ideal S128x128 .f32 := (outsAt0 m c t.val t.isLt).2.2

/-- After a later point: the table is as before it. -/
theorem table_B (t : Fin cfg0.N) (h : ¬t.val % 32 = 0) :
    (outsAt0 m c t.val t.isLt).2.2 = (outsAt0 m c (t.val - 1) (Nat.lt_of_le_of_lt (Nat.sub_le _ _) t.isLt)).2.2 := by
  rw [outsAt0_B m c t h]; rfl

/-- After a later point: the sums moved on by one step over the carried table. -/
theorem sums_B (t : Fin cfg0.N) (h : ¬t.val % 32 = 0) :
    (outsAt0 m c t.val t.isLt).1 = step (iblk m c 0 t) (iblk m c 4 t)
      (outsAt0 m c (t.val - 1) (Nat.lt_of_le_of_lt (Nat.sub_le _ _) t.isLt)).2.2
      (outsAt0 m c (t.val - 1) (Nat.lt_of_le_of_lt (Nat.sub_le _ _) t.isLt)).1 := by
  funext j
  rw [outsAt0_B m c t h]
  frame_out
  rw [read_unread_whole]
  rfl

/-- After a later point the mean's buffer holds the mean of the sums there. -/
theorem mean_B (t : Fin cfg0.N) (h : ¬t.val % 32 = 0) :
    (outsAt0 m c t.val t.isLt).2.1 = k0_pay1 (k0_pay28 (outsAt0 m c t.val t.isLt).1) := by
  rw [sums_B m c t h]
  funext j
  rw [outsAt0_B m c t h]
  frame_out
  rw [read_unread_whole]
  rfl

/-- After the first point: the sums are one step from zero, over the table just stored. -/
theorem sums_A (t : Fin cfg0.N) (h : t.val % 32 = 0) :
    sumsAt m c t = step (xb m c t) (btb m c t) (tableAt m c t) (k0_pay20 : FVec Ideal S1x16 .f32) := by
  funext j
  unfold sumsAt tableAt
  rw [outsAt0_A m c t h]
  frame_out
  rw [View.readCov_eq_canon']
  unfold step
  refine congrArg (fun w => k0_pay27 (xb m c t) (k0_pay21 (btb m c t)) k0_pay22 k0_pay23 (k0_pay24 (xb m c t)) k0_pay25 (k0_pay26 (xb m c t)) w (k0_pay20 : FVec Ideal S1x16 .f32) j) (funext fun y => ?_)
  exact congrArg (View.canon _) (funext fun a => Fin.ext (by match a with | ⟨0, _⟩ => exact (Nat.zero_add _).trans (Nat.one_mul _) | ⟨1, _⟩ => exact (Nat.zero_add _).trans (Nat.one_mul _)))

/-- An index of a stored tile, from its two coordinates. -/
theorem tile_idx (x : S16x128.Idx) (b : Fin 16) (v : Fin 128) (h0 : b.val = (x 0).val) (h1 : v.val = (x 1).val) :
    x = ix2 b v := by
  funext a
  match a with
  | ⟨0, _⟩ => exact Fin.ext h0.symm
  | ⟨1, _⟩ => exact Fin.ext h1.symm

/-- A table row of the means' part. -/
theorem table_mean (t : Fin cfg0.N) (h : t.val % 32 = 0) (n : Fin 96) (b : Fin 16) (hb : b.val = n.val % 16) (v : Fin 128) :
    tableAt m c t (ix2 ⟨n.val, by omega⟩ v)
      = mub m c t (ix2 n v) * invSq (max (scb m c t (ix2 b v)) eps) := by
  obtain ⟨n, hn⟩ := n
  replace hb : b.val = n % 16 := hb
  unfold tableAt
  rw [outsAt0_A m c t h]
  frame_out
  canon_tiles x hx
  all_goals
    have hx0' : n = _ := hx0
    have hx1' : v.val = _ := hx1
    first
    | (exfalso; omega)
    | (obtain rfl := tile_idx x b v (by omega) hx1'
       subst hx0'
       pointwise [mub, scb, invSq, eps, k0_pay15, k0_pay17, k0_pay16])

/-- A table row of the halved inverse squares. -/
theorem table_half (t : Fin cfg0.N) (h : t.val % 32 = 0) (b : Fin 16) (v : Fin 128) :
    tableAt m c t (ix2 ⟨96 + b.val, by omega⟩ v) = nhalf * invSq (max (scb m c t (ix2 b v)) eps) := by
  unfold tableAt
  rw [outsAt0_A m c t h]
  frame_out
  canon_tiles x hx
  all_goals
    have hx0' : 96 + b.val = _ := hx0
    have hx1' : v.val = _ := hx1
    first
    | (exfalso; omega)
    | (obtain rfl := tile_idx x b v (by omega) hx1'
       pointwise [scb, invSq, eps, nhalf, k0_pay18])

/-- A table row of the additive parts. -/
theorem table_bias (t : Fin cfg0.N) (h : t.val % 32 = 0) (b : Fin 16) (v : Fin 128) :
    tableAt m c t (ix2 ⟨112 + b.val, by omega⟩ v) = bias (max (scb m c t (ix2 b v)) eps)
      (fun d => mub m c t (ix2 ⟨16 * d.val + b.val, by omega⟩ v)) (lgb m c t (ix2 b v)) := by
  unfold tableAt
  rw [outsAt0_A m c t h]
  frame_out
  canon_tiles x hx
  all_goals
    have hx0' : 112 + b.val = _ := hx0
    have hx1' : v.val = _ := hx1
    first
    | (exfalso; omega)
    | (obtain rfl := tile_idx x b v (by omega) hx1'
       pointwise [scb, lgb, mub, bias, invSq, named_norm, eps, half, six, k0_pay19, k0_pay16, Fin.sum_univ_six, zero_add])

end Cert.KernelIdeal.Carried

end
-- ==== Proof.Blocks.lean ====
/-
  WHAT THE BLOCKS HOLD: a grid point sees 1024 of the points with their batch numbers, and always the whole of the three
  vote tables, which the host lines lay out with a lane per vote. Every entry of a block is an entry of an argument.
-/
module

public import proofs.«01_k».proof.Proof.Gen.KernelIdeal.Frame
public import proofs.«01_k».proof.Proof.Scalars
public import Idealize.ShloMosaic.Lib.Pipeline.ValueKit
public import Idealize.ShloMosaic.Lib.Pipeline.ReadBack
public import Idealize.ShloMosaic.Lib.Pointwise
public import proofs.«01_k».proof.Proof.Carried
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.Posterior Cert.KernelIdeal.Carried

variable (m : (ℓ : Loc nD τ sig) → Buf (Elt Ideal) ℓ) (c : Dev nD)

/-- The points' coordinates, as launched. -/
abbrev xA : FVec Ideal S32768x6 .f32 := m ((c : Thread nD τ).loc main_arg0)
/-- The votes, as launched. -/
abbrev vtA : FVec Ideal S16x16x8x6 .f32 := m ((c : Thread nD τ).loc main_arg1)
/-- The votes' scales, as launched. -/
abbrev scA : FVec Ideal S16x16x8 .f32 := m ((c : Thread nD τ).loc main_arg2)
/-- The votes' logits, as launched. -/
abbrev lgA : FVec Ideal S16x16x8 .f32 := m ((c : Thread nD τ).loc main_arg3)
/-- The points' batch numbers, as launched. -/
abbrev btA : IVec S32768 32 := m ((c : Thread nD τ).loc main_arg4)

/-- The block that each window stages at a grid point. -/
theorem idx : ∀ t : Fin grid0.N, win0_0.index t = ![t.val, 0] ∧ win0_1.index t = ![0, 0] ∧ win0_2.index t = ![0, 0]
    ∧ win0_3.index t = ![0, 0] ∧ win0_4.index t = ![t.val, 0] := by
  decide +kernel

/-- The grid has 32 points. -/
theorem lt_32 (t : Fin cfg0.N) : t.val < 32 := lt_of_lt_of_eq t.isLt N_0

/-- The array row of a grid point's row. -/
abbrev row (t : Fin cfg0.N) (r : Fin 1024) : Fin 32768 := ⟨1024 * t.val + r.val, by have := lt_32 t; omega⟩

/-- An entry of a point block. -/
theorem xb_apply (t : Fin cfg0.N) (r : Fin 1024) (d : Fin 6) : xb m c t (ix2 r d) = xA m c (ix2 (row t r) d) := by
  unfold xb xA row
  blk_ext [iblk, V, (idx t).1]

/-- An entry of a batch block. -/
theorem btb_apply (t : Fin cfg0.N) (r : Fin 1024) : btb m c t (ix2 r (0 : Fin 1)) = btA m c (ix1 (row t r)) := by
  have e : btb m c t (ix2 r (0 : Fin 1)) = V m c main_call0_v4 (ix2 (row t r) (0 : Fin 1)) := by
    unfold btb row
    blk_ext [iblk, (idx t).2.2.2.2]
  rw [e]
  simp only [V, V0, List.flatten_cons, List.flatten_nil, List.append_nil]
  entry_read
  pointwise

/-- An entry of the votes' block. -/
theorem mub_apply (t : Fin cfg0.N) (d : Fin 6) (b : Fin 16) (v : Fin 128) :
    mub m c t (ix2 ⟨16 * d.val + b.val, by omega⟩ v) = vtA m c (ix4 b ⟨v.val / 8, by omega⟩ ⟨v.val % 8, by omega⟩ d) := by
  have e : mub m c t (ix2 ⟨16 * d.val + b.val, by omega⟩ v) = V m c main_call0_v1 (ix2 (⟨16 * d.val + b.val, by omega⟩ : Fin 96) v) := by
    unfold mub
    blk_ext [iblk, (idx t).2.1]
  rw [e]
  simp only [V, V0, List.flatten_cons, List.flatten_nil, List.append_nil]
  entry_read
  pointwise
  show transpose S6x16x16x8 [3, 0, 1, 2] (vtA m c) transposes_S16x16x8x6_S6x16x16x8_3_0_1_2
    (ix4 d b (⟨v.val / 8, by omega⟩ : Fin 16) (⟨v.val % 8, by omega⟩ : Fin 8)) = _
  pointwise

/-- An entry of the scales' block. -/
theorem scb_apply (t : Fin cfg0.N) (b : Fin 16) (v : Fin 128) :
    scb m c t (ix2 b v) = scA m c (ix3 b ⟨v.val / 8, by omega⟩ ⟨v.val % 8, by omega⟩) := by
  have e : scb m c t (ix2 b v) = V m c main_call0_v2 (ix2 b v) := by
    unfold scb
    blk_ext [iblk, (idx t).2.2.1]
  rw [e]
  simp only [V, V0, List.flatten_cons, List.flatten_nil, List.append_nil]
  entry_read
  pointwise

/-- An entry of the logits' block. -/
theorem lgb_apply (t : Fin cfg0.N) (b : Fin 16) (v : Fin 128) :
    lgb m c t (ix2 b v) = lgA m c (ix3 b ⟨v.val / 8, by omega⟩ ⟨v.val % 8, by omega⟩) := by
  have e : lgb m c t (ix2 b v) = V m c main_call0_v3 (ix2 b v) := by
    unfold lgb
    blk_ext [iblk, (idx t).2.2.2.1]
  rw [e]
  simp only [V, V0, List.flatten_cons, List.flatten_nil, List.append_nil]
  entry_read
  pointwise

end Cert.KernelIdeal.Blocks

end
-- ==== Proof.Answer.lean ====
/-
  THE ANSWER BOTH PROGRAMS COMPUTE, entry by entry: the log likelihood of a point under the votes of its
  batch, summed over the points of the batch, and the mean of these sums.
-/
module

public import proofs.«01_k».proof.Proof.Scalars
public import Idealize.ShloMosaic.Lib.Pointwise

@[expose] public section

set_option maxRecDepth 16384

noncomputable section

open Idealize.ShloMosaic Idealize.ShloMosaic.TcCoe Idealize.SL.Sem

namespace Cert.Posterior

/-- The mixture's log density at point `n`, of the 128 votes of batch `b`. -/
def pointLse (x : FVec Ideal ⟨2, ![32768, 6]⟩ .f32) (vt : FVec Ideal ⟨4, ![16, 16, 8, 6]⟩ .f32)
    (sc lg : FVec Ideal ⟨3, ![16, 16, 8]⟩ .f32) (n : Fin 32768) (b : Fin 16) : EReal :=
  rLse fun v : Fin 128 =>
    rPost (max eps (sc (ix3 b (⟨v.val / 8, by omega⟩ : Fin 16) (⟨v.val % 8, by omega⟩ : Fin 8))))
      (fun d => vt (ix4 b (⟨v.val / 8, by omega⟩ : Fin 16) (⟨v.val % 8, by omega⟩ : Fin 8) d))
      (fun d => x (ix2 n d)) (lg (ix3 b (⟨v.val / 8, by omega⟩ : Fin 16) (⟨v.val % 8, by omega⟩ : Fin 8)))

/-- A batch's sum: the points whose batch number it is. -/
def batchSum (x : FVec Ideal ⟨2, ![32768, 6]⟩ .f32) (vt : FVec Ideal ⟨4, ![16, 16, 8, 6]⟩ .f32)
    (sc lg : FVec Ideal ⟨3, ![16, 16, 8]⟩ .f32) (bt : IVec ⟨1, ![32768]⟩ 32) (b : Fin 16) : EReal :=
  ∑ n : Fin 32768, if bt (ix1 n) = BitVec.ofNat 32 b then pointLse x vt sc lg n b else 0

/-- The mean over the batches. -/
def batchMean (x : FVec Ideal ⟨2, ![32768, 6]⟩ .f32) (vt : FVec Ideal ⟨4, ![16, 16, 8, 6]⟩ .f32)
    (sc lg : FVec Ideal ⟨3, ![16, 16, 8]⟩ .f32) (bt : IVec ⟨1, ![32768]⟩ 32) : EReal :=
  Ideal.div (∑ b : Fin 16, batchSum x vt sc lg bt b) (Ideal.ofBits .f32 0x41800000#32)

end Cert.Posterior

end
-- ==== Proof.Grid.lean ====
/-
  THE GRID: over the 32 points the table stays as the first point stored it, and the running sums grow by each block of
  1024 rows, so the last point leaves every batch sum and their mean.
-/
module

public import proofs.«01_k».proof.Proof.Gen.KernelIdeal.Frame
public import proofs.«01_k».proof.Proof.Scalars
public import Idealize.ShloMosaic.Lib.Pipeline.ValueKit
public import Idealize.ShloMosaic.Lib.Pipeline.ReadBack
public import Idealize.ShloMosaic.Lib.Pointwise
public import proofs.«01_k».proof.Proof.Blocks
public import proofs.«01_k».proof.Proof.Answer

@[expose] public section

set_option maxRecDepth 16384

noncomputable section

open Idealize.ShloMosaic Idealize.ShloMosaic.TcCoe Idealize.SL.Sem
open Idealize.ShloMosaic.Pipeline (Dat)

namespace Cert.KernelIdeal.Grid

open Cert.KernelIdeal Cert.KernelIdeal.Gen Cert.Posterior Cert.KernelIdeal.Step Cert.KernelIdeal.Carried Cert.KernelIdeal.Blocks

variable (m : (ℓ : Loc nD τ sig) → Buf (Elt Ideal) ℓ) (c : Dev nD)

/-- A vote's scale, kept away from zero. -/
def scale (b : Fin 16) (v : Fin 128) : EReal := max (scA m c (ix3 b ⟨v.val / 8, by omega⟩ ⟨v.val % 8, by omega⟩)) eps
/-- A vote's mean. -/
def mu (b : Fin 16) (v : Fin 128) (d : Fin 6) : EReal := vtA m c (ix4 b ⟨v.val / 8, by omega⟩ ⟨v.val % 8, by omega⟩ d)
/-- A vote's logit. -/
def logit (b : Fin 16) (v : Fin 128) : EReal := lgA m c (ix3 b ⟨v.val / 8, by omega⟩ ⟨v.val % 8, by omega⟩)

/-- A table that holds, for every vote, the three parts of its log density that do not depend on the point. -/
def IsTable (w : Vec Ideal S128x128 .f32) : Prop :=
  (∀ (d : Fin 6) (b : Fin 16) (v : Fin 128), w (ix2 ⟨16 * d.val + b.val, by omega⟩ v) = mu m c b v d * invSq (scale m c b v))
  ∧ (∀ (b : Fin 16) (v : Fin 128), w (ix2 ⟨96 + b.val, by omega⟩ v) = nhalf * invSq (scale m c b v))
  ∧ ∀ (b : Fin 16) (v : Fin 128), w (ix2 ⟨112 + b.val, by omega⟩ v) = bias (scale m c b v) (mu m c b v) (logit m c b v)

/-- The first point stores such a table. -/
theorem isTable_A (t : Fin cfg0.N) (h : t.val % 32 = 0) : IsTable m c (tableAt m c t) := by
  refine ⟨fun d b v => ?_, fun b v => ?_, fun b v => ?_⟩
  · refine (table_mean m c t h ⟨16 * d.val + b.val, by omega⟩ b (by show b.val = (16 * d.val + b.val) % 16; omega) v).trans ?_
    rw [mub_apply, scb_apply]; rfl
  · rw [table_half m c t h, scb_apply]; rfl
  · rw [table_bias m c t h, scb_apply, lgb_apply]
    simp only [mub_apply]; rfl

/-- Every point leaves such a table. -/
theorem isTable : ∀ (n : ℕ) (hn : n < cfg0.N), IsTable m c (tableAt m c ⟨n, hn⟩)
  | 0, hn => isTable_A m c ⟨0, hn⟩ rfl
  | n + 1, hn => by
    have ht := lt_32 ⟨n + 1, hn⟩
    have hB : ¬(⟨n + 1, hn⟩ : Fin cfg0.N).val % 32 = 0 := by dsimp only at ht ⊢; omega
    unfold tableAt
    rw [table_B m c ⟨n + 1, hn⟩ hB]
    exact isTable n (Nat.lt_of_succ_lt hn)

/-- A row of a block, over such a table: its mixture's log density where its batch is `b`, else nothing. -/
theorem row_term (hlg : ∀ i, lgA m c i ≠ ⊤) {w : Vec Ideal S128x128 .f32} (hw : IsTable m c w) (n : Fin 32768) (b : Fin 16) :
    Scalar.select (IntOp.cmpi .eq (BitVec.ofNat 32 b) (btA m c (ix1 n)))
        (kLse (mix (fun d => xA m c (ix2 n d)) (btA m c (ix1 n)) w)) 0
      = if btA m c (ix1 n) = BitVec.ofNat 32 b then pointLse (xA m c) (vtA m c) (scA m c) (lgA m c) n b else 0 := by
  by_cases h : btA m c (ix1 n) = BitVec.ofNat 32 b
  · rw [if_pos h, h]
    have e : ∀ v, mix (fun d => xA m c (ix2 n d)) (BitVec.ofNat 32 b) w v
        = kPost (scale m c b v) (mu m c b v) (fun d => xA m c (ix2 n d)) (logit m c b v) := fun v =>
      mix_eq _ w b v _ _ _ (fun d => hw.1 d b v) (hw.2.1 b v) (hw.2.2 b v)
    have p : ∀ v, kPost (scale m c b v) (mu m c b v) (fun d => xA m c (ix2 n d)) (logit m c b v)
          = rPost (scale m c b v) (mu m c b v) (fun d => xA m c (ix2 n d)) (logit m c b v)
        ∧ rPost (scale m c b v) (mu m c b v) (fun d => xA m c (ix2 n d)) (logit m c b v) ≠ ⊤ := fun v =>
      post_eq (le_max_right _ _) _ _ (hlg _)
    have q : mix (fun d => xA m c (ix2 n d)) (BitVec.ofNat 32 b) w
        = fun v => rPost (scale m c b v) (mu m c b v) (fun d => xA m c (ix2 n d)) (logit m c b v) :=
      funext fun v => (e v).trans (p v).1
    have s : IntOp.cmpi .eq (BitVec.ofNat 32 b) (BitVec.ofNat 32 b) = 1#1 := by simp [IntOp.cmpi]
    rw [s, q, lse_eq fun v => (p v).2]
    unfold pointLse scale mu logit
    simp only [max_comm eps]
    rfl
  · rw [if_neg h]
    have s : IntOp.cmpi .eq (BitVec.ofNat 32 b) (btA m c (ix1 n)) = 0#1 := by
      have e : (BitVec.ofNat 32 b.val == btA m c (ix1 n)) = false := beq_eq_false_iff_ne.mpr (Ne.symm h)
      show BitVec.ofBool (BitVec.ofNat 32 b.val == btA m c (ix1 n)) = 0#1
      rw [e]; rfl
    rw [s]; rfl

/-- What a grid point adds to a batch's sum. -/
def part (t : Fin cfg0.N) (b : Fin 16) : EReal :=
  ∑ r : Fin 1024, if btA m c (ix1 (row t r)) = BitVec.ofNat 32 b
    then pointLse (xA m c) (vtA m c) (scA m c) (lgA m c) (row t r) b else 0

/-- One step over such a table adds the point's part. -/
theorem step_part (hlg : ∀ i, lgA m c i ≠ ⊤) (t : Fin cfg0.N) {w : Vec Ideal S128x128 .f32} (hw : IsTable m c w)
    (acc : Vec Ideal S1x16 .f32) (b : Fin 16) :
    step (xb m c t) (btb m c t) w acc (ix2 (0 : Fin 1) b) = acc (ix2 (0 : Fin 1) b) + part m c t b := by
  rw [step_apply]
  unfold part
  refine congrArg (acc (ix2 (0 : Fin 1) b) + ·) (Finset.sum_congr rfl fun r _ => ?_)
  rw [btb_apply]
  simp only [xb_apply]
  exact row_term m c hlg hw (row t r) b

/-- After the last point the sums are the batch sums. -/
theorem sums_last (hlg : ∀ i, lgA m c i ≠ ⊤) (t : Fin cfg0.N) (ht : t.val % 32 = 31) (b : Fin 16) :
    sumsAt m c t (ix2 (0 : Fin 1) b) = batchSum (xA m c) (vtA m c) (scA m c) (lgA m c) (btA m c) b := by
  have hN : cfg0.N = 32 := N_0
  have h := Pipeline.eq_sum_fin_of_reset_step_apply_last
    (fun n hn (b : Fin 16) => (sumsAt m c ⟨n, hn⟩ (ix2 (0 : Fin 1) b) : EReal)) 32 (fun _ => 0) (part m c)
    (fun t h b => by
      show sumsAt m c t (ix2 (0 : Fin 1) b) = _
      rw [sums_A m c t h, step_part m c hlg t (isTable m c t.val t.isLt)]
      refine congrArg (· + part m c t b) ?_
      pointwise [k0_pay20])
    (fun t h b => by
      show sumsAt m c t (ix2 (0 : Fin 1) b) = _
      unfold sumsAt
      rw [sums_B m c t h]
      exact step_part m c hlg t (isTable m c (t.val - 1) (Nat.lt_of_le_of_lt (Nat.sub_le _ _) t.isLt)) _ b)
    hN.le t (by have := lt_32 t; omega) b
  refine h.trans ?_
  rw [zero_add]
  unfold part batchSum
  refine Fin.sum_mul_add_congr (fun s k hl => ?_) (by rw [hN])
  have e : row s k = ⟨s.val * 1024 + k.val, hl⟩ := Fin.ext (by show 1024 * s.val + k.val = s.val * 1024 + k.val; omega)
  rw [e]

/-- And the mean's buffer holds their mean. -/
theorem mean_last (hlg : ∀ i, lgA m c i ≠ ⊤) (t : Fin cfg0.N) (ht : t.val % 32 = 31) :
    meanAt m c t (ix2 (0 : Fin 1) (0 : Fin 1)) = batchMean (xA m c) (vtA m c) (scA m c) (lgA m c) (btA m c) := by
  unfold meanAt
  rw [mean_B m c t (by omega)]
  have h : ∀ b : Fin 16, (outsAt0 m c t.val t.isLt).1 (ix2 (0 : Fin 1) b) = _ := sums_last m c hlg t ht
  unfold batchMean
  pointwise [k0_pay1, k0_pay28, h]

end Cert.KernelIdeal.Grid

end
-- ==== Proof.Results.lean ====
/-
  THE RESULTS: the two output arrays are what the last grid point wrote back, and the two reshapes after the grid hand
  them on; `run` states both results as functions of the arguments.
-/
module

public import proofs.«01_k».proof.Proof.Grid

@[expose] public section

set_option maxRecDepth 16384

noncomputable section

open Idealize.ShloMosaic Idealize.ShloMosaic.TcCoe Idealize.SL.Sem
open Idealize.ShloMosaic.Pipeline (Dat)

namespace Cert.KernelIdeal.Results

open Cert.KernelIdeal Cert.KernelIdeal.Gen Cert.Posterior Cert.KernelIdeal.Carried Cert.KernelIdeal.Blocks Cert.KernelIdeal.Grid

variable (m : (ℓ : Loc nD τ sig) → Buf (Elt Ideal) ℓ) (ρ : Dev nD → PrngReg) (c : Dev nD)

/-- The array of sums: each batch's sum. -/
def sumsArr : Vec Ideal S1x16 .f32 := fun y => batchSum (xA m c) (vtA m c) (scA m c) (lgA m c) (btA m c) (y 1)
/-- The array of the mean. -/
def meanArr : Vec Ideal S1x1 .f32 := fun _ => batchMean (xA m c) (vtA m c) (scA m c) (lgA m c) (btA m c)

/-- The window of sums never moves. -/
theorem at5 : ∀ t : Fin cfg0.N, win0_5.index t (0 : Fin 2) = 0 ∧ win0_5.index t (1 : Fin 2) = 0 :=
  (by decide +kernel : ∀ t : Fin grid0.N, _)

/-- The array of sums after the grid. -/
theorem final_sums (hlg : ∀ i, lgA m c i ≠ ⊤) : (dats m 0 c).arrAt 5 (cfgs 0).N = sumsArr m c := by
  refine (dats m 0 c).arrAt_eq_of_covers 5 _ (by decide +kernel) fun t hf y => ?_
  have ht : t.val % 32 = 31 := (flush0_5 t).mp hf
  blk_simp
  rw [after0_5]
  obtain ⟨h0, h1⟩ := at5 t
  have e : sumsArr m c ((win0_5.blk t).view.emb y) = sumsArr m c y := by
    refine congrArg (sumsArr m c) (funext fun a => Fin.ext ?_)
    fin_cases a
    · show win0_5.index t (0 : Fin 2) * 1 + 1 * (y 0).val = (y 0).val; omega
    · show win0_5.index t (1 : Fin 2) * 16 + 1 * (y 1).val = (y 1).val; omega
  rw [e]
  have q : ∀ z : S1x16.Idx, sumsAt m c t z = sumsArr m c z := fun z => by
    have z0 : z 0 = (0 : Fin 1) := Subsingleton.elim (α := Fin 1) _ _
    refine (congrArg (sumsAt m c t) (eq_ix2 z)).trans ?_
    rw [z0]
    exact sums_last m c hlg t ht (z 1)
  exact q y

/-- The array of the mean after the grid. -/
theorem final_mean (hlg : ∀ i, lgA m c i ≠ ⊤) : (dats m 0 c).arrAt 6 (cfgs 0).N = meanArr m c := by
  refine (dats m 0 c).arrAt_eq_of_covers 6 _ (by decide +kernel) fun t hf y => ?_
  have ht : t.val % 32 = 31 := (flush0_6 t).mp hf
  blk_simp
  rw [after0_6]
  have q : ∀ z : S1x1.Idx, meanAt m c t z = meanArr m c z := fun z => by
    have z0 : z 0 = (0 : Fin 1) := Subsingleton.elim (α := Fin 1) _ _
    have z1 : z 1 = (0 : Fin 1) := Subsingleton.elim (α := Fin 1) _ _
    refine (congrArg (meanAt m c t) (eq_ix2 z)).trans ?_
    rw [z0, z1]
    exact mean_last m c hlg t ht
  exact q y

/-- The first result, the mean: the array of the mean as a scalar. -/
theorem out_mean (hlg : ∀ i, lgA m c i ≠ ⊤) : Pipeline.afterTail₀ cfgs (dats m) 0 (V0 m) [hostOps1] c main_v0_0
    = (fun _ => batchMean (xA m c) (vtA m c) (scA m c) (lgA m c) (btA m c) : Vec Ideal S_ .f32) := by
  unfold Pipeline.afterTail₀
  simp only [List.flatten_cons, List.flatten_nil, List.append_nil]
  after_results
  have h := Pipeline.withArrays_arr spec0 (by decide) c (V0 m c) (fun w => (dats m 0 c).arrAt w cfg0.N) 6
  show shapeCast S_ (Pipeline.withArrays spec0 c (V0 m c) (fun w => (dats m 0 c).arrAt w cfg0.N)
    (Proc.devRef .tc (Pipeline.arrRef spec0 6)) : Vec Ideal S1x1 .f32) _ = _
  rw [h, final_mean m c hlg]
  rfl

/-- The second result, the sums: the array of sums as a row of sixteen. -/
theorem out_sums (hlg : ∀ i, lgA m c i ≠ ⊤) : Pipeline.afterTail₀ cfgs (dats m) 0 (V0 m) [hostOps1] c main_v0_1
    = (fun i => batchSum (xA m c) (vtA m c) (scA m c) (lgA m c) (btA m c) (i 0) : Vec Ideal S16 .f32) := by
  unfold Pipeline.afterTail₀
  simp only [List.flatten_cons, List.flatten_nil, List.append_nil]
  after_results
  have h := Pipeline.withArrays_arr spec0 (by decide) c (V0 m c) (fun w => (dats m 0 c).arrAt w cfg0.N) 5
  show shapeCast S16 (Pipeline.withArrays spec0 c (V0 m c) (fun w => (dats m 0 c).arrAt w cfg0.N)
    (Proc.devRef .tc (Pipeline.arrRef spec0 5)) : Vec Ideal S1x16 .f32) _ = _
  rw [h, final_sums m c hlg]
  exact funext fun i => shapeCast_dropUnit_apply ![16] (sumsArr m c) _ i

/-- The run: both results as functions of the arguments, and the arguments unchanged. -/
theorem run (hlg : ∀ c i, lgA m c i ≠ ⊤) : θ_run defs (onTc (τ := τ) (main (F := Ideal))) ⟨m, fun _ => 0, ρ⟩ (fun r => ∀ c : Dev nD,
      r.2.mem ((c.tc : Thread nD τ).loc main_v0_0)
        = (fun _ => batchMean (xA m c) (vtA m c) (scA m c) (lgA m c) (btA m c) : Vec Ideal S_ .f32)
      ∧ r.2.mem ((c.tc : Thread nD τ).loc main_v0_1)
        = (fun i => batchSum (xA m c) (vtA m c) (scA m c) (lgA m c) (btA m c) (i 0) : Vec Ideal S16 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
      ⟨((h.1 c).2 main_v0_0 (Pipeline.mem_restRefs_of main_v0_0 (by decide) (by decide))).trans (out_mean m c (hlg c)),
        ((h.1 c).2 main_v0_1 (Pipeline.mem_restRefs_of main_v0_1 (by decide) (by decide))).trans (out_sums m c (hlg c)), h.2 c⟩)
    (θ_run_and (run_main m ρ) (unchanged m ρ))

end Cert.KernelIdeal.Results

end
-- ==== Proof.Stages.lean ====
/-
  THE REFERENCE'S STAGES, named one by one.

  The reference takes each point's batch's means, widths and logits out of the tables (`wrap`, `mask`, `takeMeans`,
  `take`, `width`), forms the six log densities per vote (`dist`, `dens`), adds the logit (`post`), takes `log ∑ exp`
  over the 128 votes, shifted by their maximum where that is finite (`top`, `shiftV`, `lse`), adds the points of a batch
  by a scatter (`sums`), and averages the batches (`mean`).
-/
module

public import proofs.«01_k».proof.Proof.Gen.ReferenceIdeal
public import proofs.«01_k».proof.Proof.Scalars
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ReferenceIdeal.Rows

open Cert.ReferenceIdeal Cert.ReferenceIdeal.Gen Cert.Posterior

/-! ## The stages -/

/-- The batch numbers as a column, a negative one counted from the end. -/
def wrap (bt : IVec S32768 32) : IVec S32768x1 32 :=
  broadcastInDim S32768x1 ![0] bcast_S32768_S32768x1_0
    (select (cmpi .slt bt (broadcastInDim S32768 ![] bcast_S_S32768 (constantI S_ 32 0#32)))
      (addi bt (broadcastInDim S32768 ![] bcast_S_S32768 (constantI S_ 32 16#32))) bt)

/-- Whether a batch number is in range. -/
def mask (bt : IVec S32768 32) : IVec S32768 1 :=
  Host.reduce IntOp.andi
    (andi (cmpi .sge (wrap bt) (broadcastInDim S32768x1 ![] bcast_S_S32768x1 (constantI S_ 32 0#32)))
      (cmpi .sle (wrap bt) (broadcastInDim S32768x1 ![0, 1] bcast_S1x1_S32768x1_0_1
        (broadcastInDim S1x1 ![1] bcast_S1_S1x1_1 (constantI S1 32 15#32)))))
    (constantI S_ 1 1#1) reducesTo_S32768x1_S32768_d1 h_S_

/-- The means of every point's batch. -/
def takeMeans (g : FVec Ideal S16x16x8x6 .f32) (bt : IVec S32768 32) : FVec Ideal S32768x16x8x6 .f32 :=
  select (broadcastInDim S32768x16x8x6 ![0] bcast_S32768_S32768x16x8x6_0 (mask bt))
    (Host.gather gather_S16x16x8x6_S32768x1_S32768x16x8x6_123_0_n_n_0_1_11686 g (wrap bt))
    (broadcastInDim S32768x16x8x6 ![] bcast_S_S32768x16x8x6 (constant S_ .f32 0x7FC00000#32))

/-- The widths, or the logits, of every point's batch. -/
def take (g : FVec Ideal S16x16x8 .f32) (bt : IVec S32768 32) : FVec Ideal S32768x16x8 .f32 :=
  select (broadcastInDim S32768x16x8 ![0] bcast_S32768_S32768x16x8_0 (mask bt))
    (Host.gather gather_S16x16x8_S32768x1_S32768x16x8_12_0_n_n_0_1_1168 g (wrap bt))
    (broadcastInDim S32768x16x8 ![] bcast_S_S32768x16x8 (constant S_ .f32 0x7FC00000#32))

/-- The clipped widths. -/
def width (sc : FVec Ideal S16x16x8 .f32) (bt : IVec S32768 32) : FVec Ideal S32768x16x8x1 .f32 :=
  maximumf (broadcastInDim S32768x16x8x1 ![] bcast_S_S32768x16x8x1 (constant S_ .f32 0x2EDBE6FF#32))
    (broadcastInDim S32768x16x8x1 ![0, 1, 2] bcast_S32768x16x8_S32768x16x8x1_0_1_2 (take sc bt))

/-- The distances in widths. -/
def dist (x : FVec Ideal S32768x6 .f32) (vt : FVec Ideal S16x16x8x6 .f32) (sc : FVec Ideal S16x16x8 .f32)
    (bt : IVec S32768 32) : FVec Ideal S32768x16x8x6 .f32 :=
  Host.divf (subf (broadcastInDim S32768x16x8x6 ![0, 1, 2, 3] bcast_S32768x1x1x6_S32768x16x8x6_0_1_2_3
      (broadcastInDim S32768x1x1x6 ![0, 3] bcast_S32768x6_S32768x1x1x6_0_3 x)) (takeMeans vt bt))
    (broadcastInDim S32768x16x8x6 ![0, 1, 2, 3] bcast_S32768x16x8x1_S32768x16x8x6_0_1_2_3 (width sc bt))

/-- The six log densities of every point and vote. -/
def dens (x : FVec Ideal S32768x6 .f32) (vt : FVec Ideal S16x16x8x6 .f32) (sc : FVec Ideal S16x16x8 .f32)
    (bt : IVec S32768 32) : FVec Ideal S32768x16x8x6 .f32 :=
  subf (subf (mulf (mulf (broadcastInDim S32768x16x8x6 ![] bcast_S_S32768x16x8x6 (constant S_ .f32 0xBF000000#32))
        (dist x vt sc bt)) (dist x vt sc bt))
      (broadcastInDim S32768x16x8x6 ![0, 1, 2, 3] bcast_S32768x16x8x1_S32768x16x8x6_0_1_2_3 (Host.log (width sc bt))))
    (broadcastInDim S32768x16x8x6 ![] bcast_S_S32768x16x8x6
      (mulf (constant S_ .f32 0x3F000000#32) (Host.log (constant S_ .f32 0x40C90FDB#32))))

/-- The 128 log posteriors of every point. -/
def post (x : FVec Ideal S32768x6 .f32) (vt : FVec Ideal S16x16x8x6 .f32) (sc lg : FVec Ideal S16x16x8 .f32)
    (bt : IVec S32768 32) : FVec Ideal S32768x128 .f32 :=
  shapeCast S32768x128 (addf (take lg bt) (Host.reduceAdd (dens x vt sc bt) (constant S_ .f32 0x00000000#32)
    reducesTo_S32768x16x8x6_S32768x16x8_d3 h_S_)) shapeCasts_S32768x16x8_S32768x128

/-- The greatest of a point's 128 numbers. -/
def top (p : FVec Ideal S32768x128 .f32) : FVec Ideal S32768 .f32 :=
  Host.reduce FloatOps.maximumf p (constant S_ .f32 0xFF800000#32) reducesTo_S32768x128_S32768_d1 h_S_

/-- The shift of a point's `log ∑ exp`: its greatest number `t` where that is finite, else zero. -/
def shiftV (t : FVec Ideal S32768 .f32) : FVec Ideal S32768 .f32 :=
  select (cmpf .olt (Host.absf t) (broadcastInDim S32768 ![] bcast_S_S32768 (constant S_ .f32 0x7F800000#32)))
    t (broadcastInDim S32768 ![] bcast_S_S32768 (constant S_ .f32 0x00000000#32))

/-- The `log ∑ exp` of every point, shifted by `s`. -/
def lse (p : FVec Ideal S32768x128 .f32) (s : FVec Ideal S32768 .f32) : FVec Ideal S32768 .f32 :=
  addf (Host.log (Host.reduceAdd (Host.exp (subf p (broadcastInDim S32768x128 ![0, 1] bcast_S32768x1_S32768x128_0_1
      (broadcastInDim S32768x1 ![0] bcast_S32768_S32768x1_0 s)))) (constant S_ .f32 0x00000000#32)
      reducesTo_S32768x128_S32768_d1 h_S_)) s

/-- The `log ∑ exp` of every point's log posteriors. -/
def rows (x : FVec Ideal S32768x6 .f32) (vt : FVec Ideal S16x16x8x6 .f32) (sc lg : FVec Ideal S16x16x8 .f32)
    (bt : IVec S32768 32) : FVec Ideal S32768 .f32 :=
  lse (post x vt sc lg bt) (shiftV (top (post x vt sc lg bt)))

/-- The sums over the points of each batch. -/
def sums (x : FVec Ideal S32768x6 .f32) (vt : FVec Ideal S16x16x8x6 .f32) (sc lg : FVec Ideal S16x16x8 .f32)
    (bt : IVec S32768 32) : FVec Ideal S16 .f32 :=
  Host.scatterAdd scatter_S16_S32768x1_S32768_n_0_0_1 (broadcastInDim S16 ![] bcast_S_S16 (constant S_ .f32 0x00000000#32))
    (broadcastInDim S32768x1 ![0] bcast_S32768_S32768x1_0 bt) (rows x vt sc lg bt)

/-- The mean over the batches. -/
def mean (l : FVec Ideal S16 .f32) : FVec Ideal S_ .f32 :=
  Host.divf (Host.reduceAdd l (constant S_ .f32 0x00000000#32) reducesTo_S16_S_d0 h_S_) (constant S_ .f32 0x41800000#32)

end Cert.ReferenceIdeal.Rows

end
-- ==== Proof.Reference.lean ====
/-
  WHAT THE REFERENCE COMPUTES: the stages of `Stages` read at an index.

  `lse_apply` with `post_apply` reads a point's `log ∑ exp` where its batch is in range; `sums_apply` reads the scatter at
  an entry, to which a point of any other batch adds nothing; `mean_apply` reads the mean.
-/
module

public import proofs.«01_k».proof.Proof.Stages
public import Idealize.ShloMosaic.Lib.ReduceAll
public import Idealize.ShloMosaic.Lib.Routing.OpsPair

@[expose] public section

set_option maxRecDepth 16384

noncomputable section

open Idealize.ShloMosaic Idealize.ShloMosaic.TcCoe Idealize.SL.Sem
open Idealize.ShloMosaic.Pipeline (Dat)

namespace Cert.ReferenceIdeal.Rows

open Cert.ReferenceIdeal Cert.ReferenceIdeal.Gen Cert.Posterior

/-! ## The stages at an index -/

variable (x : FVec Ideal S32768x6 .f32) (vt : FVec Ideal S16x16x8x6 .f32) (sc lg : FVec Ideal S16x16x8 .f32)
  (bt : IVec S32768 32)

/-- A batch number in range is left as it is. -/
theorem wrap_apply (n : Fin 32768) (b : Fin 16) (h : bt (ix1 n) = BitVec.ofNat 32 b) :
    wrap bt (ix2 n (0 : Fin 1)) = BitVec.ofNat 32 b := by
  unfold wrap
  pointwise [h]
  exact (by decide +kernel : ∀ b : Fin 16, Scalar.select (IntOp.cmpi .slt (BitVec.ofNat 32 b) 0#32)
    (IntOp.addi (BitVec.ofNat 32 b) 16#32) (BitVec.ofNat 32 b) = BitVec.ofNat 32 b) b

/-- Its mask is set. -/
theorem mask_apply (n : Fin 32768) (b : Fin 16) (h : bt (ix1 n) = BitVec.ofNat 32 b) : mask bt (ix1 n) = 1#1 := by
  unfold mask
  rw [Host.reduce_eq_foldl]
  refine IntOp.foldl_andi_one _ _ _ rfl fun i hi => ?_
  rw [List.mem_filter] at hi
  have e : i = ix2 n (0 : Fin 1) := by
    have e := congrFun (of_decide_eq_true hi.2) 0
    have e0 : i 0 = n := e
    have e1 : i 1 = (0 : Fin 1) := Fin.ext (show (i 1).val = 0 from Nat.lt_one_iff.mp (i 1).isLt)
    funext a
    match a with
    | ⟨0, _⟩ => exact e0
    | ⟨1, _⟩ => exact e1
  subst e
  pointwise [wrap_apply bt n b h]
  exact (by decide +kernel : ∀ b : Fin 16, IntOp.andi (IntOp.cmpi .sge (BitVec.ofNat 32 b) 0#32)
    (IntOp.cmpi .sle (BitVec.ofNat 32 b) 15#32) = 1#1) b

/-- A word in range is its own clamp. -/
theorem clamp_word : ∀ b : Fin 16, min (BitVec.ofNat 32 b.val).toInt.toNat 15 = b.val := by decide +kernel

/-- A slice starts at zero on an axis that no index word names. -/
theorem start_off {s si t : Shape} (d : GatherDims s si t) {w : Nat} (j : t.Idx) (idx : IVec si w) (a : Fin s.rank)
    (h : a ∉ d.startIndexMap) : d.start j idx a = 0 := by
  unfold GatherDims.start; exact dif_neg h

/-- On an axis that one names, at the clamped word. -/
theorem start_on {s si t : Shape} (d : GatherDims s si t) {w : Nat} (j : t.Idx) (idx : IVec si w) (a : Fin s.rank)
    (h : a ∈ d.startIndexMap) : d.start j idx a
      = min (idx (d.siIdx j ⟨d.startIndexMap.idxOf a, List.idxOf_lt_length_iff.2 h⟩)).toInt.toNat (s.size a - d.sliceSizes a) := by
  unfold GatherDims.start; exact dif_pos h

/-- The means of a point whose batch is in range. -/
theorem takeMeans_apply (n : Fin 32768) (b : Fin 16) (h : bt (ix1 n) = BitVec.ofNat 32 b) (a : Fin 16) (e : Fin 8) (d : Fin 6) :
    takeMeans vt bt (ix4 n a e d) = vt (ix4 b a e d) := by
  unfold takeMeans
  pointwise [mask_apply bt n b h]
  unfold Host.gather
  refine congrArg vt (funext fun i => Fin.ext ?_)
  show GatherDims.start _ _ _ i + GatherDims.batchCoord _ _ i + GatherDims.offCoord _ _ i = _
  rw [GatherDims.batchCoord_eq_zero _ _ _ List.not_mem_nil, Nat.add_zero]
  match i with
  | ⟨0, _⟩ =>
    refine (congrArg₂ (· + ·) (start_on _ _ _ _ (show (0 : Fin 4) ∈ ([0] : List (Fin 4)) from List.mem_singleton.mpr rfl))
      (GatherDims.offCoord_eq_zero _ _ _ (fun h => ((GatherDims.mem_sKept _ _).mp h).1 (List.mem_singleton.mpr rfl)))).trans ?_
    refine (congrArg (fun q => min (wrap bt q).toInt.toNat 15) (?_ : _ = ix2 n (0 : Fin 1))).trans ?_
    · funext k
      match k with
      | ⟨0, _⟩ => rfl
      | ⟨1, _⟩ => rfl
    · rw [wrap_apply bt n b h]
      exact clamp_word b
  | ⟨1, _⟩ =>
    exact (congrArg (· + _) (start_off _ _ _ _ (show (1 : Fin 4) ∉ ([0] : List (Fin 4)) from by decide))).trans
      ((Nat.zero_add _).trans rfl)
  | ⟨2, _⟩ =>
    exact (congrArg (· + _) (start_off _ _ _ _ (show (2 : Fin 4) ∉ ([0] : List (Fin 4)) from by decide))).trans
      ((Nat.zero_add _).trans rfl)
  | ⟨3, _⟩ =>
    exact (congrArg (· + _) (start_off _ _ _ _ (show (3 : Fin 4) ∉ ([0] : List (Fin 4)) from by decide))).trans
      ((Nat.zero_add _).trans rfl)

/-- The widths, or the logits, of a point whose batch is in range. -/
theorem take_apply (n : Fin 32768) (b : Fin 16) (h : bt (ix1 n) = BitVec.ofNat 32 b) (a : Fin 16) (e : Fin 8) :
    take sc bt (ix3 n a e) = sc (ix3 b a e) := by
  unfold take
  pointwise [mask_apply bt n b h]
  unfold Host.gather
  refine congrArg sc (funext fun i => Fin.ext ?_)
  show GatherDims.start _ _ _ i + GatherDims.batchCoord _ _ i + GatherDims.offCoord _ _ i = _
  rw [GatherDims.batchCoord_eq_zero _ _ _ List.not_mem_nil, Nat.add_zero]
  match i with
  | ⟨0, _⟩ =>
    refine (congrArg₂ (· + ·) (start_on _ _ _ _ (show (0 : Fin 3) ∈ ([0] : List (Fin 3)) from List.mem_singleton.mpr rfl))
      (GatherDims.offCoord_eq_zero _ _ _ (fun h => ((GatherDims.mem_sKept _ _).mp h).1 (List.mem_singleton.mpr rfl)))).trans ?_
    refine (congrArg (fun q => min (wrap bt q).toInt.toNat 15) (?_ : _ = ix2 n (0 : Fin 1))).trans ?_
    · funext k
      match k with
      | ⟨0, _⟩ => rfl
      | ⟨1, _⟩ => rfl
    · rw [wrap_apply bt n b h]
      exact clamp_word b
  | ⟨1, _⟩ =>
    exact (congrArg (· + _) (start_off _ _ _ _ (show (1 : Fin 3) ∉ ([0] : List (Fin 3)) from by decide))).trans
      ((Nat.zero_add _).trans rfl)
  | ⟨2, _⟩ =>
    exact (congrArg (· + _) (start_off _ _ _ _ (show (2 : Fin 3) ∉ ([0] : List (Fin 3)) from by decide))).trans
      ((Nat.zero_add _).trans rfl)

/-- Its clipped widths. -/
theorem width_apply (n : Fin 32768) (b : Fin 16) (h : bt (ix1 n) = BitVec.ofNat 32 b) (a : Fin 16) (e : Fin 8) :
    width sc bt (ix4 n a e (0 : Fin 1)) = max eps (sc (ix3 b a e)) := by
  unfold width
  pointwise [take_apply sc bt n b h]

/-- Its six log densities. -/
theorem dens_apply (n : Fin 32768) (b : Fin 16) (h : bt (ix1 n) = BitVec.ofNat 32 b) (a : Fin 16) (e : Fin 8) (d : Fin 6) :
    dens x vt sc bt (ix4 n a e d) = term (max eps (sc (ix3 b a e))) (vt (ix4 b a e d)) (x (ix2 n d)) := by
  unfold dens dist
  pointwise [width_apply sc bt n b h, takeMeans_apply vt bt n b h]
  rfl

/-- Its log posteriors: vote `v` of the 128 is vote `v % 8` of capsule `v / 8`. -/
theorem post_apply (n : Fin 32768) (b : Fin 16) (h : bt (ix1 n) = BitVec.ofNat 32 b) (v : Fin 128) :
    post x vt sc lg bt (ix2 n v)
      = rPost (max eps (sc (ix3 b (⟨v.val / 8, by omega⟩ : Fin 16) (⟨v.val % 8, by omega⟩ : Fin 8))))
          (fun d => vt (ix4 b (⟨v.val / 8, by omega⟩ : Fin 16) (⟨v.val % 8, by omega⟩ : Fin 8) d))
          (fun d => x (ix2 n d)) (lg (ix3 b (⟨v.val / 8, by omega⟩ : Fin 16) (⟨v.val % 8, by omega⟩ : Fin 8))) := by
  unfold post
  pointwise [take_apply lg bt n b h, dens_apply x vt sc bt n b h]
  rfl

/-- The greatest number of a row. -/
theorem top_apply (p : FVec Ideal S32768x128 .f32) (n : Fin 32768) : top p (ix1 n) = maxOf fun k => p (ix2 n k) := by
  unfold top
  pointwise
  rw [negInf_eq, maxOf]

/-- The shift of a row. -/
theorem shiftV_apply (t : FVec Ideal S32768 .f32) (n : Fin 32768) :
    shiftV t (ix1 n) = if max (t (ix1 n)) (-t (ix1 n)) < ⊤ then t (ix1 n) else 0 := by
  unfold shiftV
  pointwise [posInf_eq]
  rfl

/-- The `log ∑ exp` of a row under a shift. -/
theorem lse_apply (p : FVec Ideal S32768x128 .f32) (s : FVec Ideal S32768 .f32) (n : Fin 32768) :
    lse p s (ix1 n) = Ideal.log (∑ k : Fin 128, Ideal.exp (p (ix2 n k) - s (ix1 n))) + s (ix1 n) := by
  unfold lse
  pointwise

/-- A point's `log ∑ exp`. -/
theorem rows_apply (n : Fin 32768) : rows x vt sc lg bt (ix1 n) = rLse fun v => post x vt sc lg bt (ix2 n v) := by
  unfold rows
  rw [lse_apply, shiftV_apply, top_apply, rLse, shift]

/-- An entry of the scatter: the points of that batch. -/
theorem sums_apply (b : Fin 16) : sums x vt sc lg bt (ix1 b)
    = ∑ n : Fin 32768, if bt (ix1 n) = BitVec.ofNat 32 b then rows x vt sc lg bt (ix1 n) else 0 := by
  unfold sums
  generalize rows x vt sc lg bt = r
  have e0 : (broadcastInDim S16 ![] bcast_S_S16 (constant (F := Ideal) S_ .f32 0x00000000#32)) (ix1 b) = 0 := by pointwise
  have hl : ∀ n : Fin 32768, (scatter_S16_S32768x1_S32768_n_0_0_1.resultIdx? (ix1 n)
      (broadcastInDim S32768x1 ![0] bcast_S32768_S32768x1_0 bt) = some (ix1 b)) ↔ bt (ix1 n) = BitVec.ofNat 32 b := by
    intro n
    have eb : (broadcastInDim S32768x1 ![0] bcast_S32768_S32768x1_0 bt) (ix2 n (0 : Fin 1)) = bt (ix1 n) := by pointwise
    rw [Routing.resultIdx?_eq_some]
    have hwin : scatter_S16_S32768x1_S32768_n_0_0_1.window (ix1 n) 0 = 0 := by
      unfold ScatterDims.window
      exact dif_neg (by decide)
    have hst : scatter_S16_S32768x1_S32768_n_0_0_1.start (ix1 n) (broadcastInDim S32768x1 ![0] bcast_S32768_S32768x1_0 bt) 0
        = (bt (ix1 n)).toInt := by
      rw [← eb]
      unfold ScatterDims.start
      refine (dif_pos (show (0 : Fin 1) ∈ ([0] : List (Fin 1)) from List.mem_singleton.mpr rfl)).trans ?_
      refine congrArg (fun q => (broadcastInDim S32768x1 ![0] bcast_S32768_S32768x1_0 bt q).toInt) (funext fun k => ?_)
      match k with
      | ⟨0, _⟩ => rfl
      | ⟨1, _⟩ => rfl
    have hb : (BitVec.ofNat 32 b.val).toInt = (b.val : Int) := (by decide +kernel : ∀ b : Fin 16, (BitVec.ofNat 32 b.val).toInt = (b.val : Int)) b
    constructor
    · intro e
      have e' := e 0
      rw [hwin, hst] at e'
      exact BitVec.eq_of_toInt_eq ((by simpa using e' : _ = (b.val : Int)).trans hb.symm)
    · intro e k
      obtain rfl : k = 0 := Subsingleton.elim _ _
      rw [hwin, hst, e, hb]
      simp
  show _ + ∑ j ∈ Finset.univ.filter _, r j = _
  rw [e0, zero_add, Finset.sum_filter]
  refine Fintype.sum_equiv (Equiv.piUnique fun a : Fin 1 => Fin (![32768] a)) _ _ fun j => ?_
  obtain ⟨n, rfl⟩ : ∃ n : Fin 32768, j = ix1 n := ⟨j 0, funext fun a => by obtain rfl : a = 0 := Subsingleton.elim _ _; rfl⟩
  exact if_congr (hl n) rfl rfl

/-- The mean at its index. -/
theorem mean_apply (l : FVec Ideal S16 .f32) (i : S_.Idx) :
    mean l i = Ideal.div (∑ b : Fin 16, l (ix1 b)) (Ideal.ofBits .f32 0x41800000#32) := by
  unfold mean
  pointwise

end Cert.ReferenceIdeal.Rows

end
-- ==== Proof.RefTerm.lean ====
/-
  THE REFERENCE'S RESULTS ARE ITS STAGES: the composed term of each result is the last stage of `Stages`.
-/
module

public import proofs.«01_k».proof.Proof.Gen.ReferenceIdeal.Run
public import proofs.«01_k».proof.Proof.Stages

@[expose] public section

set_option maxRecDepth 16384

noncomputable section

open Idealize.ShloMosaic Idealize.ShloMosaic.TcCoe Idealize.SL.Sem
open Idealize.ShloMosaic.Pipeline (Dat)

namespace Cert.ReferenceIdeal.Rows

open Cert.ReferenceIdeal Cert.ReferenceIdeal.Gen Cert.ReferenceIdeal.Value Cert.Posterior

variable (m : (ℓ : Loc nD τ sig) → Buf (Elt Ideal) ℓ) (c : Dev nD)

/-- The second result is the sums. -/
theorem res_sums : res_main_v38 m c = sums (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold res_main_v38; rfl

/-- The first result is the mean of the sums. -/
theorem res_mean : res_main_v40 m c = mean (sums (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))) := by
  unfold res_main_v40; rfl

end Cert.ReferenceIdeal.Rows

end
-- ==== Proof.RefAnswer.lean ====
/-
  THE REFERENCE AT THE ANSWER: its two results, from any memory, are the batch sums and their mean.
-/
module

public import proofs.«01_k».proof.Proof.Reference
public import proofs.«01_k».proof.Proof.RefTerm
public import proofs.«01_k».proof.Proof.Answer

@[expose] public section

set_option maxRecDepth 16384

noncomputable section

open Idealize.ShloMosaic Idealize.ShloMosaic.TcCoe Idealize.SL.Sem
open Idealize.ShloMosaic.Pipeline (Dat)

namespace Cert.ReferenceIdeal.Rows

open Cert.ReferenceIdeal Cert.ReferenceIdeal.Gen Cert.Posterior

variable (x : FVec Ideal S32768x6 .f32) (vt : FVec Ideal S16x16x8x6 .f32) (sc lg : FVec Ideal S16x16x8 .f32)
  (bt : IVec S32768 32)

/-- An entry of the reference's sums is the batch's sum. -/
theorem sums_answer (b : Fin 16) : sums x vt sc lg bt (ix1 b) = batchSum x vt sc lg bt b := by
  rw [sums_apply]
  unfold batchSum
  refine Finset.sum_congr rfl fun n _ => ?_
  by_cases h : bt (ix1 n) = BitVec.ofNat 32 b
  · rw [if_pos h, if_pos h, rows_apply]
    unfold pointLse
    exact congrArg rLse (funext fun v => post_apply x vt sc lg bt n b h v)
  · rw [if_neg h, if_neg h]

/-- The reference's sums, whole. -/
theorem sums_eq : sums x vt sc lg bt = fun i => batchSum x vt sc lg bt (i 0) := funext fun i =>
  (congrArg (sums x vt sc lg bt) (eq_ix1 i)).trans (sums_answer x vt sc lg bt (i 0))

/-- The reference's mean. -/
theorem mean_eq : mean (sums x vt sc lg bt) = fun _ => batchMean x vt sc lg bt := funext fun i => by
  rw [mean_apply]
  unfold batchMean
  simp only [sums_answer]

end Cert.ReferenceIdeal.Rows

end
-- ==== Proof.lean ====
/-
  THE PROOF OF `Cert.Claim`. The frames of the kernel and its idealization are generated; the reference's follows from its
  run. Both programs' runs end at the same function of the arguments, `Cert.Posterior.batchSum` and `batchMean`: the kernel's
  by Proof/Results.lean, the reference's by Proof/RefAnswer.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_logits_below_infinity
public import proofs.«01_k».proof.Proof.Gen.ReferenceIdeal.Run
public import proofs.«01_k».proof.Proof.Results
public import proofs.«01_k».proof.Proof.RefAnswer
public import Idealize.ShloMosaic.Lib.Quiescent
public import Idealize.ShloMosaic.Adequacy
public import Idealize.ShloMosaic.Init

@[expose] public section

noncomputable section

namespace Cert.Proof

open Idealize.ShloMosaic Idealize.SL.Sem

/-- The precondition says that no logit is infinite. -/
theorem logits (m : (ℓ : Loc Cert.KernelIdeal.nD Cert.KernelIdeal.τ Cert.KernelIdeal.sig) → Buf (Elt Ideal) ℓ)
    (h : Cert.Pre_KernelIdeal_logits_below_infinity m) (c : Dev Cert.KernelIdeal.nD) (i : Cert.KernelIdeal.S16x16x8.Idx) :
    Cert.KernelIdeal.Blocks.lgA m c i ≠ ⊤ := by
  have e := congrFun (h c) i
  simp only [Cert.Pre_logits_below_infinity.fn, cmpf, broadcastInDim, constant, Ideal.cmpf_def, Ideal.cmp, Ideal.ofBits_def,
    Cert.Posterior.posInf_eq] at e
  intro h
  have l : decide ((Cert.KernelIdeal.Blocks.lgA m c i : EReal) < ⊤) = false :=
    decide_eq_false (fun l => (ne_of_lt l) h)
  exact absurd ((congrArg BitVec.ofBool l).symm.trans e) (by decide)

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_logits_below_infinity := fun m ρ _ => Cert.KernelIdeal.Gen.frame m ρ

/-- The reference declares no semaphore, so its counters are zero. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_ri_pre : Cert.quiescent_ReferenceIdeal_pre_logits_below_infinity := fun m ρ _ => frame_ri m ρ trivial

/-- The named constant is the real it is named for. -/
theorem preserves : Cert.preserves_Kernel_KernelIdeal :=
  IdealRules.named_const.statement Cert.KernelIdeal.κ "log_norm" .f32 0x40B06FAB#32
    ((3 * (Real.log (13176795 / 2097152)) : ℝ) : EReal) rfl

/-- Both programs end with the batch sums and their mean. -/
theorem algebraic : Cert.algebraic_KernelIdeal_ReferenceIdeal_pre_logits_below_infinity := by
  intro m g m' g' hpre hagree
  refine ⟨_, _, Cert.KernelIdeal.Results.run m g (logits m hpre), ?_⟩
  refine (θ_run Cert.ReferenceIdeal.defs _ _).mono (fun r h c => ?_) (Cert.ReferenceIdeal.Value.run (F := Ideal) m' g')
  obtain ⟨h0, h1, hargs⟩ := h c
  obtain ⟨a0, a1, a2, a3, a4⟩ := hagree c
  refine ⟨h0.trans ?_, h1.trans ?_, hargs⟩
  · rw [Cert.ReferenceIdeal.Rows.res_mean, Cert.ReferenceIdeal.Rows.mean_eq, a0, a1, a2, a3, a4]
  · rw [Cert.ReferenceIdeal.Rows.res_sums, Cert.ReferenceIdeal.Rows.sums_eq, a0, a1, a2, a3, a4]

theorem claim : Cert.Claim := ⟨Cert.Kernel.Gen.facts, Cert.KernelIdeal.Gen.facts, Cert.ReferenceIdeal.Gen.facts,
  Cert.Pre_logits_below_infinity.Gen.facts, frame_p, frame_pi, frame_pi_pre, frame_ri, frame_ri_pre, preserves, algebraic⟩

end Cert.Proof

end
